-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x2048 .f32) (main_arg1 : FVec F S2048x16384 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 32 := constantI S_ 32 32768#32
  let main_v11 : IVec S1024 32 := broadcastInDim S1024 ![] bcast_S_S1024 main_c_3
  let main_v12 : IVec S1024 1 := cmpi .slt main_arg2 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Pre_finite_and_in_range_ReferenceIdeal.lean ====
abbrev S1024x2048 : Shape := ⟨2, ![1024, 2048]⟩
abbrev S2048x32768 : Shape := ⟨2, ![2048, 32768]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x2048 .f32) (main_arg1 : FVec F S2048x32768 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 32 := constantI S_ 32 32768#32
  let main_v11 : IVec S1024 32 := broadcastInDim S1024 ![] bcast_S_S1024 main_c_3
  let main_v12 : IVec S1024 1 := cmpi .slt main_arg2 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x2048 : Shape := ⟨2, ![1024, 2048]⟩
abbrev S2048x16384 : Shape := ⟨2, ![2048, 16384]⟩
abbrev S1024 : Shape := ⟨1, ![1024]⟩
abbrev S1024x1 : Shape := ⟨2, ![1024, 1]⟩
abbrev S2x2048x1024 : Shape := ⟨3, ![2, 2048, 1024]⟩
abbrev S1024x2 : Shape := ⟨2, ![1024, 2]⟩
abbrev S3x1024x2 : Shape := ⟨3, ![3, 1024, 2]⟩
abbrev S2 : Shape := ⟨1, ![2]⟩
abbrev S3 : Shape := ⟨1, ![3]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩
abbrev S1024x1024 : Shape := ⟨2, ![1024, 1024]⟩
abbrev S1x1024x2 : Shape := ⟨3, ![1, 1024, 2]⟩
abbrev S1x1024x1 : Shape := ⟨3, ![1, 1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024, .i32⟩
  | .hbm, ⟨3, _⟩ => ⟨S1024x1, .i32⟩
  | .hbm, ⟨4, _⟩ => ⟨S1024x1, .f32⟩
  | .hbm, ⟨5, _⟩ => ⟨S1024, .f32⟩
  | .local _ .vmem, ⟨0, _⟩ => ⟨S1024x2048, .f32⟩
  | .local _ .vmem, ⟨1, _⟩ => ⟨S1024x1, .i32⟩
  | .local _ .vmem, ⟨2, _⟩ => ⟨S1024x1, .f32⟩
  | .local _ .vmem, ⟨3, _⟩ => ⟨S1024x2048, .bf16⟩
  | .local _ .vmem, ⟨4, _⟩ => ⟨S2x2048x1024, .f32⟩
  | .local _ .vmem, ⟨5, _⟩ => ⟨S1024x2, .f32⟩
  | .local _ .vmem, ⟨6, _⟩ => ⟨S3x1024x2, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let c0_i32_6 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v6 : BitVec 32 := Scalar.muli v2 c8192_i32
  let v7 : BitVec 32 := Scalar.addi v6 c0_i32
  ![0, v7.toNat]
def k0_dev1 (d0 : Dev nD) : Nat :=
  let c0_i32_16 : BitVec 32 := 0#32
  let c1_i32_10 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v19 : BitVec 32 := Scalar.subi c1_i32_10 v2
  let c2_i32_15 : BitVec 32 := 2#32
  let v24 : BitVec 32 := Scalar.muli v19 c2_i32_15
  let v25 : BitVec 32 := Scalar.addi c0_i32_16 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v26 : BitVec 32 := Scalar.muli v5 c1_i32_17
  let v27 : BitVec 32 := Scalar.addi v25 v26
  v27.toNat
def k0_dev2 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v28 : BitVec 32 := Scalar.muli v2 c2_i32_19
  let v29 : BitVec 32 := Scalar.addi c0_i32_20 v28
  let c1_i32_11 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_11 v5
  let c1_i32_21 : BitVec 32 := 1#32
  let v30 : BitVec 32 := Scalar.muli v20 c1_i32_21
  let v31 : BitVec 32 := Scalar.addi v29 v30
  v31.toNat
def k0_dev3 (d0 : Dev nD) : Nat :=
  let c0_i32_24 : BitVec 32 := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_12 v2
  let c2_i32_23 : BitVec 32 := 2#32
  let v32 : BitVec 32 := Scalar.muli v21 c2_i32_23
  let v33 : BitVec 32 := Scalar.addi c0_i32_24 v32
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v22 : BitVec 32 := Scalar.subi c1_i32_13 v5
  let c1_i32_25 : BitVec 32 := 1#32
  let v34 : BitVec 32 := Scalar.muli v22 c1_i32_25
  let v35 : BitVec 32 := Scalar.addi v33 v34
  v35.toNat
def k0_dev4 (d0 : Dev nD) : Nat :=
  let c0_i32_220 : BitVec 32 := 0#32
  let c1_i32_10 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v19 : BitVec 32 := Scalar.subi c1_i32_10 v2
  let c2_i32_219 : BitVec 32 := 2#32
  let v319 : BitVec 32 := Scalar.muli v19 c2_i32_219
  let v320 : BitVec 32 := Scalar.addi c0_i32_220 v319
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v321 : BitVec 32 := Scalar.muli v5 c1_i32_221
  let v322 : BitVec 32 := Scalar.addi v320 v321
  v322.toNat
def k0_dev5 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v329 : BitVec 32 := Scalar.muli v2 c2_i32_227
  let v330 : BitVec 32 := Scalar.addi c0_i32_228 v329
  let c1_i32_11 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_11 v5
  let c1_i32_229 : BitVec 32 := 1#32
  let v331 : BitVec 32 := Scalar.muli v20 c1_i32_229
  let v332 : BitVec 32 := Scalar.addi v330 v331
  v332.toNat
def k0_dev6 (d0 : Dev nD) : Nat :=
  let c0_i32_236 : BitVec 32 := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_12 v2
  let c2_i32_235 : BitVec 32 := 2#32
  let v339 : BitVec 32 := Scalar.muli v21 c2_i32_235
  let v340 : BitVec 32 := Scalar.addi c0_i32_236 v339
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v22 : BitVec 32 := Scalar.subi c1_i32_13 v5
  let c1_i32_237 : BitVec 32 := 1#32
  let v341 : BitVec 32 := Scalar.muli v22 c1_i32_237
  let v342 : BitVec 32 := Scalar.addi v340 v341
  v342.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024 : Shape := ⟨1, ![1024]⟩
abbrev S1024x32768 : Shape := ⟨2, ![1024, 32768]⟩
abbrev S_ : Shape := ⟨0, ![]⟩
abbrev S1024x1 : Shape := ⟨2, ![1024, 1]⟩
abbrev S1024x2 : Shape := ⟨2, ![1024, 2]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024, .i32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024, .f32⟩
  | .hbm, ⟨35, _⟩ => ⟨S1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Protocol.lean ====
/-
  The protocol of the kernel between its four devices: who tells whom what, and what the message carries.

  Each device reduces its own part of the vocabulary to two columns of 1024 numbers and sends them to its three peers.
  Before sending, it tells each peer that the peer may write into its receive buffer (one unit on the peer's barrier
  cell), and waits for the three units its own peers send it. The schedule below says what each of these units hands
  over: slot `k` of the sender's receive buffer; the sent share of the send buffer back; slot `k` of the receive buffer
  with the peer's two columns in it.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Pipeline.Value
public import Idealize.ShloMosaic.Lib.Rounds
public import Idealize.ShloMosaic.Lib.Transfers
public import Idealize.ShloMosaic.Lib.Tactic

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- The talk's own copy of the round algebra: a cell has up to three duties. -/
abbrev UB : Type := URounds (GSem nD τ sig) (Fin 3)
/-- The pipeline's copy, the talk's, and the counters of the tile copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

/-! ## The peers -/

/-- Device `c`'s peer `k`: across the first mesh axis, across the second, across both. -/
def peer (k : Fin 3) (c : Dev nD) : Dev nD :=
  match k with
  | 0 => ⟨(c.val + 2) % 4, Nat.mod_lt _ (by decide)⟩
  | 1 => ⟨(2 * (c.val / 2) + 1) - c.val % 2, by have : c.val < 4 := c.isLt; show _ < 4; omega⟩
  | 2 => ⟨3 - c.val, by show _ < 4; omega⟩

theorem peer_peer (k : Fin 3) (c : Dev nD) : peer k (peer k c) = c := by revert k c; decide
/-- Being peer `k` is mutual. -/
def peers (k : Fin 3) : Dev nD ≃ Dev nD := ⟨peer k, peer k, peer_peer k, peer_peer k⟩

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 0 c := Fin.ext ((k0_dev4_eq c).trans (by revert c; decide))
theorem dev5_eq (c : Dev nD) : (⟨k0_dev5 c, k0_dev5_lt c⟩ : Dev nD) = peer 1 c := Fin.ext ((k0_dev5_eq c).trans (by revert c; decide))
theorem dev6_eq (c : Dev nD) : (⟨k0_dev6 c, k0_dev6_lt c⟩ : Dev nD) = peer 2 c := Fin.ext ((k0_dev6_eq c).trans (by revert c; decide))

/-! ## Buffers and cells -/

abbrev xM : Memref sig .tc .vmem S1024x2048 .f32 := Memref.whole cc0_stg0_0
abbrev wM : Memref sig .tc .hbm S2048x16384 .f32 := Memref.whole main_arg1
abbrev lM : Memref sig .tc .vmem S1024x1 .i32 := Memref.whole cc0_stg1_0
abbrev oM : Memref sig .tc .vmem S1024x1 .f32 := Memref.whole cc0_stg2_0
abbrev bM : Memref sig .tc .vmem S1024x2048 .bf16 := Memref.whole cc0_scratch0
abbrev tM : Memref sig .tc .vmem S2x2048x1024 .f32 := Memref.whole cc0_scratch1
abbrev sM : Memref sig .tc .vmem S1024x2 .f32 := Memref.whole cc0_scratch2
abbrev rM : Memref sig .tc .vmem S3x1024x2 .f32 := Memref.whole cc0_scratch3

/-- The two slots of the tile buffer. -/
abbrev tSl : Fin 2 → Memref sig .tc .vmem S2048x1024 .f32
  | 0 => (tM.slice (Rect.unit (s := S2x2048x1024) ![0, 0, 0] S1x2048x1024.size inb_S2x2048x1024_S1x2048x1024_0_0_0) (fun _ => rfl)).squeeze S2048x1024 squeezes_S1x2048x1024_S2048x1024
  | 1 => (tM.slice (Rect.unit (s := S2x2048x1024) ![1, 0, 0] S1x2048x1024.size inb_S2x2048x1024_S1x2048x1024_1_0_0) (fun _ => rfl)).squeeze S2048x1024 squeezes_S1x2048x1024_S2048x1024
/-- The three slots of the receive buffer. -/
abbrev rSl : Fin 3 → Memref sig .tc .vmem S1024x2 .f32
  | 0 => (rM.slice (Rect.unit (s := S3x1024x2) ![0, 0, 0] S1x1024x2.size inb_S3x1024x2_S1x1024x2_0_0_0) (fun _ => rfl)).squeeze S1024x2 squeezes_S1x1024x2_S1024x2
  | 1 => (rM.slice (Rect.unit (s := S3x1024x2) ![1, 0, 0] S1x1024x2.size inb_S3x1024x2_S1x1024x2_1_0_0) (fun _ => rfl)).squeeze S1024x2 squeezes_S1x1024x2_S1024x2
  | 2 => (rM.slice (Rect.unit (s := S3x1024x2) ![2, 0, 0] S1x1024x2.size inb_S3x1024x2_S1x1024x2_2_0_0) (fun _ => rfl)).squeeze S1024x2 squeezes_S1x1024x2_S1024x2

/-- The barrier semaphore, the two semaphores of the tile copies, the three send and the three receive semaphores. -/
abbrev barS : Sem sig := (SemArray.scalar (sig.barrier 0 rfl) : Sems sig S_).sem
abbrev tS : Fin 2 → DmaSem sig
  | 0 => ((cc0_scratch4.slice (Rect.unit (s := S2) ![0] S1.size inb_S2_S1_0)).squeeze S_ squeezes_S1_S_).sem
  | 1 => ((cc0_scratch4.slice (Rect.unit (s := S2) ![1] S1.size inb_S2_S1_1)).squeeze S_ squeezes_S1_S_).sem
abbrev sS : Fin 3 → DmaSem sig
  | 0 => ((cc0_scratch5.slice (Rect.unit (s := S3) ![0] S1.size inb_S3_S1_0)).squeeze S_ squeezes_S1_S_).sem
  | 1 => ((cc0_scratch5.slice (Rect.unit (s := S3) ![1] S1.size inb_S3_S1_1)).squeeze S_ squeezes_S1_S_).sem
  | 2 => ((cc0_scratch5.slice (Rect.unit (s := S3) ![2] S1.size inb_S3_S1_2)).squeeze S_ squeezes_S1_S_).sem
abbrev rS : Fin 3 → DmaSem sig
  | 0 => ((cc0_scratch6.slice (Rect.unit (s := S3) ![0] S1.size inb_S3_S1_0)).squeeze S_ squeezes_S1_S_).sem
  | 1 => ((cc0_scratch6.slice (Rect.unit (s := S3) ![1] S1.size inb_S3_S1_1)).squeeze S_ squeezes_S1_S_).sem
  | 2 => ((cc0_scratch6.slice (Rect.unit (s := S3) ![2] S1.size inb_S3_S1_2)).squeeze S_ squeezes_S1_S_).sem

theorem tS_val (k : Fin 2) : tS k = (⟨3 + k.val, by have := k.isLt; show _ < 11; omega⟩ : DmaSem sig) := by revert k; decide
theorem sS_val (k : Fin 3) : sS k = (⟨5 + k.val, by have := k.isLt; show _ < 11; omega⟩ : DmaSem sig) := by revert k; decide
theorem rS_val (k : Fin 3) : rS k = (⟨8 + k.val, by have := k.isLt; show _ < 11; omega⟩ : DmaSem sig) := by revert k; decide

abbrev barCell (c : Dev nD) : GSem nD τ sig := ((c : Thread nD τ), .reg barS)
abbrev sndCell (k : Fin 3) (c : Dev nD) : GSem nD τ sig := ((c : Thread nD τ), .dma (sS k))
abbrev rcvCell (k : Fin 3) (c : Dev nD) : GSem nD τ sig := ((c : Thread nD τ), .dma (rS k))

/-- What a semaphore is for in the talk. -/
inductive Role where
  | bar | snd (k : Fin 3) | rcv (k : Fin 3) | other
deriving DecidableEq

/-- A semaphore's role, by its number: DMA semaphores 5, 6, 7 are the send ones, 8, 9, 10 the receive ones. -/
def role : SemLoc sig → Role
  | .reg s => if s = barS then .bar else .other
  | .dma s => if h : 5 ≤ s.val ∧ s.val < 8 then .snd ⟨s.val - 5, by omega⟩ else if h : 8 ≤ s.val ∧ s.val < 11 then .rcv ⟨s.val - 8, by omega⟩ else .other

theorem role_bar : role (.reg barS) = .bar := by dsimp only [role]; exact if_pos rfl
theorem role_snd (k : Fin 3) : role (.dma (sS k)) = .snd k := by rw [sS_val]; revert k; decide
theorem role_rcv (k : Fin 3) : role (.dma (rS k)) = .rcv k := by rw [rS_val]; revert k; decide
theorem role_tile (k : Fin 2) : role (.dma (tS k)) = .other := by rw [tS_val]; revert k; decide

/-- The credit of one message: a whole slot of two columns. -/
abbrev N : ℕ := (sM : Memref sig .tc .vmem S1024x2 .f32).view.dmaCredit
theorem N_pos : 0 < N := View.dmaCredit_pos _ (by decide)
/-- The credit of one tile copy. -/
abbrev NT : ℕ := (tSl 0).view.dmaCredit
theorem NT_pos : 0 < NT := View.dmaCredit_pos _ (by decide)

/-- The three shares in which the send buffer is lent to the three sends. -/
abbrev qS : Fin 3 → PosShare TreeShare
  | 0 => (fullShare : PosShare TreeShare).left
  | 1 => (fullShare : PosShare TreeShare).right.left
  | 2 => (fullShare : PosShare TreeShare).right.right

/-! ## What the body computes -/

/-- What the four devices' bodies start from: the activations, the device's columns of the weights, the labels. -/
structure Ins (F : FTy → Type) where
  x : Dev nD → FVec F S1024x2048 .f32
  w : Dev nD → FVec F S2048x16384 .f32
  l : Dev nD → IVec S1024x1 32

/-- The source of tile `t`: 1024 of the device's columns. -/
abbrev srcM (c : Dev nD) (t : Fin 8) : Memref sig .tc .hbm S2048x1024 .f32 :=
  wM.slice (Rect.unit (s := S2048x16384) (k0_off1 c (BitVec.ofNat 32 (1024 * t.val))) S2048x1024.size (k0_off1_inb c t)) (fun _ => rfl)

/-- Logits of one tile: the rounded activations against the rounded tile. -/
def logit (xb : FVec F S1024x2048 .bf16) (t : FVec F S2048x1024 .f32) : FVec F S1024x1024 .f32 :=
  matmul dot_S1024x2048_S2048x1024_S1024x1024_1_0_0_1_n_n none xb (truncf .bf16 t bitsLt_bf16_f32) (constant S1024x1024 .f32 0x00000000#32)

/-- One step of the sum of exponentials. -/
def sStep (a : FVec F S1024x1 .f32) (lg : FVec F S1024x1024 .f32) : FVec F S1024x1 .f32 :=
  addf a (shapeCast S1024x1 (multiReduction .add [1] S1024 (exp lg) 0x00000000#32 reduces_S1024x1024_S1024 (.inl rfl) rfl) shapeCasts_S1024_S1024x1)

/-- The number of the first column of tile `t` on device `c`, as the program's words compute it. -/
def colBase (c : Dev nD) (t : Fin 8) : BitVec 32 :=
  Scalar.addi (Scalar.addi (Scalar.muli (Scalar.remsi (Scalar.divsi (Dev.word c) 1#32) 2#32) 16384#32)
    (Scalar.muli (Scalar.remsi (Scalar.divsi (Dev.word c) 2#32) 2#32) 8192#32)) (BitVec.ofNat 32 (1024 * t.val))

/-- One step of the sum of the label's logits: a tile's logits where the column is the label's, zero elsewhere. -/
def tStep (b : BitVec 32) (a : FVec F S1024x1 .f32) (lg : FVec F S1024x1024 .f32) (lab : IVec S1024x1 32) : FVec F S1024x1 .f32 :=
  addf a (shapeCast S1024x1 (multiReduction .add [1] S1024
    (select (cmpi .eq (iota .tc S1024x1024 32 [1] iota_S1024x1024_d1_w32)
        (broadcastTo S1024x1024 (subi (shapeCast S1024x1 lab shapeCasts_S1024x1_S1024x1) (broadcast S1024x1 b)) broadcasts_S1024x1_S1024x1024))
      lg (broadcast S1024x1024 (Scalar.ofBits .f32 0x00000000#32))) 0x00000000#32 reduces_S1024x1024_S1024 (.inl rfl) rfl) shapeCasts_S1024_S1024x1)

namespace Ins
variable (i : Ins F) (c : Dev nD)

/-- The activations rounded. -/
def xb : FVec F S1024x2048 .bf16 := k0_pay2 (i.x c)
/-- The contents of tile `t`. -/
def tile (t : Fin 8) : FVec F S2048x1024 .f32 := (srcM c t).view.read (Elt F) (i.w c)
/-- Its logits. -/
def lg (t : Fin 8) : FVec F S1024x1024 .f32 := logit (i.xb c) (i.tile c t)
/-- The sums over the first tiles. -/
def s0 : FVec F S1024x1 .f32 := sStep k0_pay3 (i.lg c 0)
def s1 : FVec F S1024x1 .f32 := sStep (i.s0 c) (i.lg c 1)
def s2 : FVec F S1024x1 .f32 := sStep (i.s1 c) (i.lg c 2)
def s3 : FVec F S1024x1 .f32 := sStep (i.s2 c) (i.lg c 3)
def s4 : FVec F S1024x1 .f32 := sStep (i.s3 c) (i.lg c 4)
def s5 : FVec F S1024x1 .f32 := sStep (i.s4 c) (i.lg c 5)
def s6 : FVec F S1024x1 .f32 := sStep (i.s5 c) (i.lg c 6)
def s7 : FVec F S1024x1 .f32 := sStep (i.s6 c) (i.lg c 7)
def t0 : FVec F S1024x1 .f32 := tStep (colBase c 0) k0_pay4 (i.lg c 0) (i.l c)
def t1 : FVec F S1024x1 .f32 := tStep (colBase c 1) (i.t0 c) (i.lg c 1) (i.l c)
def t2 : FVec F S1024x1 .f32 := tStep (colBase c 2) (i.t1 c) (i.lg c 2) (i.l c)
def t3 : FVec F S1024x1 .f32 := tStep (colBase c 3) (i.t2 c) (i.lg c 3) (i.l c)
def t4 : FVec F S1024x1 .f32 := tStep (colBase c 4) (i.t3 c) (i.lg c 4) (i.l c)
def t5 : FVec F S1024x1 .f32 := tStep (colBase c 5) (i.t4 c) (i.lg c 5) (i.l c)
def t6 : FVec F S1024x1 .f32 := tStep (colBase c 6) (i.t5 c) (i.lg c 6) (i.l c)
def t7 : FVec F S1024x1 .f32 := tStep (colBase c 7) (i.t6 c) (i.lg c 7) (i.l c)
/-- The message: the sums of exponentials in column 0, the label's logit (or zero) in column 1. -/
def snd : FVec F S1024x2 .f32 := fun j =>
  if (j 1).val = 0 then i.s7 c (fun a => match a with | 0 => j 0 | 1 => ⟨0, Nat.one_pos⟩)
  else i.t7 c (fun a => match a with | 0 => j 0 | 1 => ⟨0, Nat.one_pos⟩)
/-- Column `b` of a message, as the slice of a receive buffer it is loaded as. -/
def col (b : Fin 2) : FVec F S1x1024x1 .f32 := fun j => i.snd c (fun a => match a with | 0 => j 1 | 1 => b)
/-- The device's result. -/
def out : FVec F S1024x1 .f32 :=
  k0_pay1 (i.s7 c) (i.t7 c) (i.col (peer 0 c) 0) (i.col (peer 1 c) 0) (i.col (peer 2 c) 0)
    (i.col (peer 0 c) 1) (i.col (peer 1 c) 1) (i.col (peer 2 c) 1)
end Ins

/-! ## The schedule -/

variable (i : Ins F)

/-- A slot of device `c`'s receive buffer, holding something. -/
def rAny (k : Fin 3) (c : Dev nD) : sProp 𝕄 :=
  iprop(∃ f : Buf (Elt F) ((rSl k).view.loc (c : Thread nD τ)), (rSl k).view.loc (c : Thread nD τ) ↦[(rSl k).view.set]{fullShare} f)
/-- A slot of device `c`'s receive buffer, holding the columns `v`. -/
def rAt (k : Fin 3) (c : Dev nD) (v : FVec F S1024x2 .f32) : sProp 𝕄 :=
  iprop(∃ f : Buf (Elt F) ((rSl k).view.loc (c : Thread nD τ)), ⌜(rSl k).view.read (Elt F) f = v⌝ ∗ ((rSl k).view.loc (c : Thread nD τ) ↦[(rSl k).view.set]{fullShare} f))
/-- A share of device `c`'s send buffer at its message. -/
def sAt (q : PosShare TreeShare) (c : Dev nD) : sProp 𝕄 :=
  iprop((sM : Memref sig .tc .vmem S1024x2 .f32).view.loc (c : Thread nD τ) ↦[(sM : Memref sig .tc .vmem S1024x2 .f32).view.set]{q} i.snd c)

/-- Peer `k`'s unit on device `c`'s barrier cell: slot `k` of the peer's receive buffer, ready for `c`'s message. -/
def barPay (k : Fin 3) (c : Dev nD) : sProp 𝕄 := iprop(rAny k (peer k c) ∗ reached ER (rcvCell k (peer k c)) 0)

instance (k : Fin 3) (c : Dev nD) : BI.Storable (upEmb : UEmb _ 𝕄) (barPay (F := F) k c) := by unfold barPay rAny; infer_instance
instance (q : PosShare TreeShare) (c : Dev nD) : BI.Storable (upEmb : UEmb _ 𝕄) (sAt i q c) := by unfold sAt; infer_instance
instance (k : Fin 3) (c : Dev nD) (v : FVec F S1024x2 .f32) : BI.Storable (upEmb : UEmb _ 𝕄) (rAt k c v) := by unfold rAt; infer_instance

/-- The payload of duty `d` of a cell of device `c` with the given role. -/
def payOf (c : Dev nD) (d : Fin 3) : Role → sProp 𝕄
  | .bar => barPay d c
  | .snd k => sAt i (qS k) c
  | .rcv k => rAt k c (i.snd (peer k c))
  | .other => iprop(emp)

instance (c : Dev nD) (d : Fin 3) (ro : Role) : BI.Storable (upEmb : UEmb _ 𝕄) (payOf i c d ro) := by
  cases ro <;> (unfold payOf; dsimp only; infer_instance)

/-- Which duties a cell with the given role has: the barrier three, a send or receive cell one. -/
def dutiesOf : Role → Finset (Fin 3)
  | .bar => Finset.univ
  | .snd _ => {0}
  | .rcv _ => {0}
  | .other => ∅

/-- How much one duty pays. -/
def amountOf : Role → ℕ
  | .bar => 1
  | _ => N

theorem amountOf_pos (ro : Role) : 0 < amountOf ro := by
  cases ro
  · exact Nat.one_pos
  all_goals exact N_pos

/-- The schedule: one round. -/
def talk : Rounds.Schedule (GSem nD τ sig) (Fin 3) 𝕄 where
  duties g r := if r = 0 ∧ g.1.2 = .tc then dutiesOf (role g.2) else ∅
  unitless _ := False
  amount g _ _ := amountOf (role g.2)
  payload g _ d := payOf i g.1.1 d (role g.2)
  amount_pos g _ _ _ := amountOf_pos (role g.2)

instance talk_storable (g : GSem nD τ sig) (r : ℕ) (d : Fin 3) :
    BI.Storable (upEmb : UEmb _ 𝕄) ((talk i).payload g r d) := by
  show BI.Storable upEmb (payOf i g.1.1 d (role g.2)); infer_instance

section Sched
variable (c : Dev nD) (k d : Fin 3)

omit [FloatOps F] in
theorem fin3_univ : (Finset.univ : Finset (Fin 3)) = {0, 1, 2} := by decide

theorem duties_bar : (talk i).duties (barCell c) 0 = Finset.univ := by
  dsimp only [talk]
  rw [if_pos ⟨rfl, rfl⟩, role_bar]; rfl
theorem duties_snd : (talk i).duties (sndCell k c) 0 = {0} := by
  dsimp only [talk]
  rw [if_pos ⟨rfl, rfl⟩, role_snd]; rfl
theorem duties_rcv : (talk i).duties (rcvCell k c) 0 = {0} := by
  dsimp only [talk]
  rw [if_pos ⟨rfl, rfl⟩, role_rcv]; rfl
theorem duties_later (g : GSem nD τ sig) : ∀ r, 1 ≤ r → (talk i).duties g r = ∅ :=
  fun r hr => if_neg fun h => by omega

theorem amount_bar : (talk i).amount (barCell c) 0 d = 1 := by show amountOf (role (.reg barS)) = 1; rw [role_bar]; rfl
theorem amount_snd : (talk i).amount (sndCell k c) 0 d = N := by show amountOf (role (.dma (sS k))) = N; rw [role_snd]; rfl
theorem amount_rcv : (talk i).amount (rcvCell k c) 0 d = N := by show amountOf (role (.dma (rS k))) = N; rw [role_rcv]; rfl

theorem expect_bar : (talk i).expect (barCell c) 0 = 3 := by
  unfold Schedule.expect Schedule.amountOf
  rw [duties_bar, Finset.sum_congr rfl fun d _ => amount_bar i c d, Finset.sum_const, Finset.card_univ, Fintype.card_fin, smul_eq_mul]
theorem expect_snd : (talk i).expect (sndCell k c) 0 = N := by
  unfold Schedule.expect Schedule.amountOf; rw [duties_snd, Finset.sum_singleton, amount_snd]
theorem expect_rcv : (talk i).expect (rcvCell k c) 0 = N := by
  unfold Schedule.expect Schedule.amountOf; rw [duties_rcv, Finset.sum_singleton, amount_rcv]

theorem payload_bar : (talk i).payload (barCell c) 0 d = barPay d c := by show payOf i c d (role (.reg barS)) = _; rw [role_bar]; rfl
theorem payload_snd : (talk i).payload (sndCell k c) 0 d = sAt i (qS k) c := by show payOf i c d (role (.dma (sS k))) = _; rw [role_snd]; rfl
theorem payload_rcv : (talk i).payload (rcvCell k c) 0 d = rAt k c (i.snd (peer k c)) := by show payOf i c d (role (.dma (rS k))) = _; rw [role_rcv]; rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((talk i).duties (barCell c) 0 \ ∅) (fun d => (talk i).payload (barCell c) 0 d) = iprop(barPay 0 c ∗ barPay 1 c ∗ barPay 2 c) := by
  rw [Finset.sdiff_empty, duties_bar, bigSep_fin3, payload_bar, payload_bar, payload_bar]
theorem rest_snd : bigSep ((talk i).duties (sndCell k c) 0 \ ∅) (fun d => (talk i).payload (sndCell k c) 0 d) = sAt i (qS k) c := by
  rw [Finset.sdiff_empty, duties_snd, bigSep_singleton, payload_snd]
theorem rest_rcv : bigSep ((talk i).duties (rcvCell k c) 0 \ ∅) (fun d => (talk i).payload (rcvCell k c) 0 d) = rAt k c (i.snd (peer k c)) := by
  rw [Finset.sdiff_empty, duties_rcv, bigSep_singleton, payload_rcv]

end Sched

/-! ## What a device owes, and the levels that keep the waits free of cycles -/

/-- What device `c` owes of messages: one to each peer. -/
def O₂ (c : Dev nD) : CellTallies nD τ sig Unit := tallyAt (rcvCell 2 (peer 2 c)) () N
def O₁ (c : Dev nD) : CellTallies nD τ sig Unit := O₂ c + tallyAt (rcvCell 1 (peer 1 c)) () N
def Or (c : Dev nD) : CellTallies nD τ sig Unit := O₁ c + tallyAt (rcvCell 0 (peer 0 c)) () N
/-- And of barrier units. -/
def Ob₂ (c : Dev nD) : CellTallies nD τ sig Unit := Or c + tallyAt (barCell (peer 2 c)) () 1
def Ob₁ (c : Dev nD) : CellTallies nD τ sig Unit := Ob₂ c + tallyAt (barCell (peer 1 c)) () 1
def O₀ (c : Dev nD) : CellTallies nD τ sig Unit := Ob₁ c + tallyAt (barCell (peer 0 c)) () 1

def L (g : GSem nD τ sig) : Finset Unit := if g.1.2 = .tc then {()} else ∅
/-- Barrier cells at 1, receive cells at 2, the rest at 0. -/
def lvOf : Role → ℕ
  | .bar => 1
  | .rcv _ => 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- A summand of a tally that is positive somewhere. -/
theorem tally_pos {O : CellTallies nD τ sig Unit} {h g : GSem nD τ sig} {u : Unit} {n : ℕ} (hp : 0 < (O + tallyAt h () n) g u) :
    0 < O g u ∨ g = h := by
  rw [Pi.add_apply, Finsupp.add_apply, tallyAt_apply] at hp
  by_cases e : g = h ∧ u = ()
  · exact .inr e.1
  · rw [if_neg e] at hp; exact .inl hp

theorem O₂_pos {c : Dev nD} {g : GSem nD τ sig} {u : Unit} (h : 0 < O₂ c g u) : g = rcvCell 2 (peer 2 c) := by
  unfold O₂ at h; rw [tallyAt_apply] at h
  by_contra hn; rw [if_neg fun e => hn e.1] at h; exact Nat.lt_irrefl 0 h
theorem Or_pos {c : Dev nD} {g : GSem nD τ sig} {u : Unit} (h : 0 < Or c g u) : ∃ k, g = rcvCell k (peer k c) := by
  rcases tally_pos h with h | h
  · rcases tally_pos h with h | h
    · exact ⟨2, O₂_pos h⟩
    · exact ⟨1, h⟩
  · exact ⟨0, h⟩
theorem O₀_pos {c : Dev nD} {g : GSem nD τ sig} {u : Unit} (h : 0 < O₀ c g u) :
    ∃ k, g = rcvCell k (peer k c) ∨ g = barCell (peer k c) := by
  rcases tally_pos h with h | h
  · rcases tally_pos h with h | h
    · rcases tally_pos h with h | h
      · obtain ⟨k, h⟩ := Or_pos h; exact ⟨k, .inl h⟩
      · exact ⟨2, .inr h⟩
    · exact ⟨1, .inr h⟩
  · exact ⟨0, .inr h⟩

omit [FloatOps F] in
/-- A wait on a cell of level 0 may be made while owing anything that is owed to barrier and receive cells. -/
theorem mayWait_low (c : Dev nD) (s : SemLoc sig) (hs : lvOf (role s) = 0) (O : CellTallies nD τ sig Unit)
    (hO : ∀ g u, 0 < O g u → ∃ k d, g = rcvCell k d ∨ g = barCell d) :
    (levAts L lv : sProp 𝕄) ⊢ MayWait (c : Thread nD τ) s () O :=
  MayOwe.of_cut (L := L) (lev := lv) 0 (fun p hp => by rw [Finset.mem_singleton.mp hp, L_tc]; exact Finset.mem_singleton_self _)
    (fun g u hg => by obtain ⟨k, d, rfl | rfl⟩ := hO g u hg <;> exact Finset.mem_singleton_self _)
    (fun p hp => by rw [Finset.mem_singleton.mp hp]; exact hs.le)
    (fun g u hg => by
      obtain ⟨k, d, rfl | rfl⟩ := hO g u hg
      · show 0 < lvOf (role (.dma (rS k))); rw [role_rcv]; exact Nat.two_pos
      · show 0 < lvOf (role (.reg barS)); rw [role_bar]; decide)

omit [FloatOps F] in
theorem mayWait_tile (c : Dev nD) (b : Fin 2) : (levAts L lv : sProp 𝕄) ⊢ MayWait (c : Thread nD τ) (.dma (tS b)) () (Or c) :=
  mayWait_low c _ (by rw [role_tile]; rfl) _ fun g u h => by obtain ⟨k, h⟩ := Or_pos h; exact ⟨k, _, .inl h⟩

omit [FloatOps F] in
/-- At the barrier a device owes its messages only. -/
theorem mayWait_bar (c : Dev nD) : (levAts L lv : sProp 𝕄) ⊢ MayWait (c : Thread nD τ) (.reg barS) () (Or c) :=
  MayOwe.of_cut (L := L) (lev := lv) 1 (fun p hp => by rw [Finset.mem_singleton.mp hp, L_tc]; exact Finset.mem_singleton_self _)
    (fun g u hg => by obtain ⟨k, rfl⟩ := Or_pos hg; exact Finset.mem_singleton_self _)
    (fun p hp => by rw [Finset.mem_singleton.mp hp]; show lvOf (role (.reg barS)) ≤ 1; rw [role_bar]; decide)
    (fun g u hg => by obtain ⟨k, rfl⟩ := Or_pos hg; show 1 < lvOf (role (.dma (rS k))); rw [role_rcv]; exact Nat.one_lt_two)

end Cert.Nll

end
-- ==== Proof.Steps.lean ====
/-
  One rule per kind of step the body takes: start the copy of a tile, wait for it, load a whole buffer, load a tile
  slot, signal a peer, wait at the barrier, send a message, wait for a send or a message. The body's proof is then a
  list of these.
-/
module

public import proofs.«01_k».proof.Proof.Protocol

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable {α : Type} {Q : α → sProp (MT nD τ sig Unit (Elt F) ℕ UU ℕ)}

/-- What device `c` owes, whatever it has waited for so far. -/
def owing (c : Dev nD) (O : CellTallies nD τ sig Unit) : sProp 𝕄 := iprop(∃ W, owes (c : Thread nD τ) O W)

/-! ## Whole buffers -/

/-- A whole buffer of device `c` at contents `f`. -/
abbrev pts (c : Dev nD) (b : Ref sig .tc) (q : PosShare TreeShare) (f : b.ty.Contents (Elt F)) : sProp 𝕄 :=
  (Memref.whole b).view.loc (c : Thread nD τ) ↦{q} f

/-- A load through a memref of a buffer held whole yields what the memref reads there. -/
theorem wp_load_of (c : Dev nD) {cs : CoreSpace} {sh : Shape} {e : EltTy} {m : Memref sig .tc cs sh e} {r : LoadRect sh} {q : PosShare TreeShare}
    {f : Buf (Elt F) (m.view.loc (c : Thread nD τ))} {v : r.shape.Idx → Elt F e} (hv : m.view.readAt (Elt F) r f = v) {hl : m.view.LoadsAt r}
    {k : (r.shape.Idx → Elt F e) → Prog (TpuEff nD τ sig (Elt F) Λ₀ .tc) α} :
    (m.view.loc (c : Thread nD τ) ↦{q} f : sProp 𝕄)
      ⊢ iprop(((m.view.loc (c : Thread nD τ) ↦{q} f) -∗ wp frame (wpE (defs₀ (F := F)) 𝒱₀ (c : Thread nD τ) none) Set.univ (k v) Q)
        -∗ wp frame (wpE (defs₀ (F := F)) 𝒱₀ (c : Thread nD τ) none) Set.univ (.op (.load m r hl) k) Q) := by
  subst hv
  exact wp_load 𝒱₀ (c : Thread nD τ) none Set.univ (m := m) (Finset.subset_univ _)

theorem off2 : (![0, 0] : Fin 2 → Nat) = fun _ => 0 := funext fun a => by fin_cases a <;> rfl

/-! ## Tile copies -/

section Tile
variable (c : Dev nD) {src : Memref sig .tc .hbm S2048x1024 .f32} {d : Memref sig .tc .vmem S2048x1024 .f32} {s : DmaSem sig}

/-- A tile slot holding something. -/
def tAny (c : Dev nD) (d : Memref sig .tc .vmem S2048x1024 .f32) : sProp 𝕄 :=
  iprop(∃ f : Buf (Elt F) (d.view.loc (c : Thread nD τ)), d.view.loc (c : Thread nD τ) ↦[d.view.set]{fullShare} f)
/-- A tile slot holding the tile `v`. -/
def tAt (c : Dev nD) (d : Memref sig .tc .vmem S2048x1024 .f32) (v : FVec F S2048x1024 .f32) : sProp 𝕄 :=
  iprop(∃ f : Buf (Elt F) (d.view.loc (c : Thread nD τ)), ⌜d.view.read (Elt F) f = v⌝ ∗ (d.view.loc (c : Thread nD τ) ↦[d.view.set]{fullShare} f))
/-- A copy of a tile on its way, with the share of the source it reads under. -/
def tFly (c : Dev nD) (src : Memref sig .tc .hbm S2048x1024 .f32) (d : Memref sig .tc .vmem S2048x1024 .f32) (s : DmaSem sig)
    (q : PosShare TreeShare) (w : Buf (Elt F) (src.view.loc (c : Thread nD τ))) : sProp 𝕄 :=
  iprop(∃ f : Buf (Elt F) (d.view.loc (c : Thread nD τ)),
    Transfers.Flight EC (c : Thread nD τ) (.dma s) () NT
      iprop((d.view.loc (c : Thread nD τ) ↦[d.view.set]{fullShare} (d.view.write (Elt F) f (src.view.read (Elt F) w) Finset.univ))
        ∗ (src.view.loc (c : Thread nD τ) ↦[src.view.set]{q} w))
    ∗ (src.view.loc (c : Thread nD τ) ↦[Finset.univ \ src.view.set]{q} w))

theorem tAt_any (v : FVec F S2048x1024 .f32) : (tAt c d v : sProp 𝕄) ⊢ tAny c d := by
  unfold tAt tAny
  iintro ⟨%f, -, H⟩
  iexists f; iexact H

/-- Starting the copy of a tile. -/
theorem wp_tile_start {q : PosShare TreeShare} {w : Buf (Elt F) (src.view.loc (c : Thread nD τ))}
    {h1 : src.view.WordExact} {h2 : d.view.WordExact} {h3 : (DmaTarget.here (nD := nD) (τ := τ) (p := .tc) d).Typed .hbm (.dma s)}
    {k : PUnit → Prog (TpuEff nD τ sig (Elt F) Λ₀ .tc) α} (hN : d.view.dmaCredit = NT) :
    iprop((src.view.loc (c : Thread nD τ) ↦{q} w) ∗ tAny c d ∗ semVal ((c : Thread nD τ), .dma s) 0)
      ⊢ iprop((tFly c src d s q w -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here d) (.dma s) h1 h2 h3) k) Q) := by
  unfold tAny tFly
  iintro ⟨Hw, ⟨%f, Hd⟩, Hs⟩ Hk
  ihave Hw := (pointsTo_split_subset (Finset.subset_univ src.view.set)).1 $$ Hw
  icases Hw with ⟨Hw, Hrest⟩
  iapply (Transfers.wp_dmaLocal EC 𝒱₀ (c : Thread nD τ) none (src := src) (dst := d) (via := ReadAs.same) (sm := .dma s) (fd := f) (fs := w) (q := q) () NT hN NT_pos subset_rfl) $$ [Hw Hd Hs]
  · isplitl [Hw]; · iexact Hw
    isplitl [Hd] <;> iassumption
  iintro Hf
  iapply Hk
  iexists f
  isplitl [Hf] <;> iassumption

/-- Waiting for it. -/
theorem wp_tile_wait {q : PosShare TreeShare} {w : Buf (Elt F) (src.view.loc (c : Thread nD τ))} {O : CellTallies nD τ sig Unit}
    {src' : Memref sig .tc .hbm S2048x1024 .f32} {h1 : src'.view.WordExact} {h2 : d.view.WordExact}
    {k : PUnit → Prog (TpuEff nD τ sig (Elt F) Λ₀ .tc) α} (hN : d.view.dmaCredit = NT) :
    iprop(tFly c src d s q w ∗ owing c O ∗ MayWait (c : Thread nD τ) (.dma s) () O)
      ⊢ iprop(((tAt c d (src.view.read (Elt F) w) ∗ (src.view.loc (c : Thread nD τ) ↦{q} w) ∗ semVal ((c : Thread nD τ), .dma s) 0 ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src' d h1 h2) k) Q) := by
  unfold tAt tFly owing
  iintro ⟨⟨%f, Hf, Hrest⟩, ⟨%W, HO⟩, Hm⟩ Hk
  iapply (Transfers.wp_waitLocalO EC 𝒱₀ (c : Thread nD τ) none () hN) $$ [Hf HO Hm]
  · isplitl [Hf]; · iexact Hf
    isplitl [HO] <;> iassumption
  iintro ⟨⟨Hd, Hw⟩, Hs, HO⟩
  iapply Hk
  isplitl [Hd]
  · iexists _; isplitr [Hd]
    rotate_left
    · iexact Hd
    ipureintro; exact View.read_write_univ _ _
  isplitl [Hw Hrest]
  · iapply (pointsTo_split_subset (Finset.subset_univ src.view.set)).2
    isplitl [Hw] <;> iassumption
  isplitl [Hs]; · iexact Hs
  iexists _; iexact HO

end Tile

/-- A load of slot 0 of the tile buffer yields a box whose two long axes are the tile's. -/
theorem wp_load_slot0 (c : Dev nD) {v : FVec F S2048x1024 .f32}
    {hl : (tM : Memref sig .tc .vmem S2x2048x1024 .f32).view.LoadsAt (Rect.unit (s := S2x2048x1024) ![0, 0, 0] S1x2048x1024.size inb_S2x2048x1024_S1x2048x1024_0_0_0).toLoadRect}
    {k : (S1x2048x1024.Idx → Elt F .f32) → Prog (TpuEff nD τ sig (Elt F) Λ₀ .tc) α} :
    (tAt c (tSl 0) v : sProp 𝕄)
      ⊢ iprop((∀ u : FVec F S1x2048x1024 .f32, ⌜shapeCast S2048x1024 u shapeCasts_S1x2048x1024_S2048x1024 = v⌝ -∗ tAt c (tSl 0) v
            -∗ wp frame (wpE (defs₀ (F := F)) 𝒱₀ (c : Thread nD τ) none) Set.univ (k u) Q)
        -∗ wp frame (wpE (defs₀ (F := F)) 𝒱₀ (c : Thread nD τ) none) Set.univ
            (.op (.load tM (Rect.unit (s := S2x2048x1024) ![0, 0, 0] S1x2048x1024.size inb_S2x2048x1024_S1x2048x1024_0_0_0).toLoadRect hl) k) Q) := by
  unfold tAt
  iintro ⟨%f, %hf, H⟩ Hk
  iapply (wp_load 𝒱₀ (c : Thread nD τ) none Set.univ (m := tM) (S := (tSl 0).view.set)
    (Finset.subset_of_eq ((View.set_slice _ _).symm.trans (Memref.set_view_squeeze (tM.slice (Rect.unit (s := S2x2048x1024) ![0, 0, 0] S1x2048x1024.size inb_S2x2048x1024_S1x2048x1024_0_0_0) (fun _ => rfl)) squeezes_S1x2048x1024_S2048x1024).symm))) $$ H
  iintro H
  iapply Hk
  · ipureintro
    exact (Memref.read_squeeze_slice tM _ (fun _ => rfl) squeezes_S1x2048x1024_S2048x1024 shapeCasts_S1x2048x1024_S2048x1024 f).symm.trans hf
  · iexists f
    isplitr; · ipureintro; exact hf
    iexact H

/-- A load of slot 1 of the tile buffer yields a box whose two long axes are the tile's. -/
theorem wp_load_slot1 (c : Dev nD) {v : FVec F S2048x1024 .f32}
    {hl : (tM : Memref sig .tc .vmem S2x2048x1024 .f32).view.LoadsAt (Rect.unit (s := S2x2048x1024) ![1, 0, 0] S1x2048x1024.size inb_S2x2048x1024_S1x2048x1024_1_0_0).toLoadRect}
    {k : (S1x2048x1024.Idx → Elt F .f32) → Prog (TpuEff nD τ sig (Elt F) Λ₀ .tc) α} :
    (tAt c (tSl 1) v : sProp 𝕄)
      ⊢ iprop((∀ u : FVec F S1x2048x1024 .f32, ⌜shapeCast S2048x1024 u shapeCasts_S1x2048x1024_S2048x1024 = v⌝ -∗ tAt c (tSl 1) v
            -∗ wp frame (wpE (defs₀ (F := F)) 𝒱₀ (c : Thread nD τ) none) Set.univ (k u) Q)
        -∗ wp frame (wpE (defs₀ (F := F)) 𝒱₀ (c : Thread nD τ) none) Set.univ
            (.op (.load tM (Rect.unit (s := S2x2048x1024) ![1, 0, 0] S1x2048x1024.size inb_S2x2048x1024_S1x2048x1024_1_0_0).toLoadRect hl) k) Q) := by
  unfold tAt
  iintro ⟨%f, %hf, H⟩ Hk
  iapply (wp_load 𝒱₀ (c : Thread nD τ) none Set.univ (m := tM) (S := (tSl 1).view.set)
    (Finset.subset_of_eq ((View.set_slice _ _).symm.trans (Memref.set_view_squeeze (tM.slice (Rect.unit (s := S2x2048x1024) ![1, 0, 0] S1x2048x1024.size inb_S2x2048x1024_S1x2048x1024_1_0_0) (fun _ => rfl)) squeezes_S1x2048x1024_S2048x1024).symm))) $$ H
  iintro H
  iapply Hk
  · ipureintro
    exact (Memref.read_squeeze_slice tM _ (fun _ => rfl) squeezes_S1x2048x1024_S2048x1024 shapeCasts_S1x2048x1024_S2048x1024 f).symm.trans hf
  · iexists f
    isplitr; · ipureintro; exact hf
    iexact H

/-! ## The talk -/

/-- The kernel's own semaphores the talk uses: the three send and the three receive ones. -/
abbrev talkSem : Fin 6 → SemLoc sig
  | 0 => .dma (sS 0) | 1 => .dma (sS 1) | 2 => .dma (sS 2) | 3 => .dma (rS 0) | 4 => .dma (rS 1) | 5 => .dma (rS 2)
theorem talkSem_inj : Function.Injective talkSem := by decide
theorem talkSem_ne_bar : ∀ k : Fin 6, talkSem k ≠ .reg barS := by decide

def barEmb : Dev nD ↪ GSem nD τ sig := ⟨fun c => barCell c, fun _ _ h => congrArg (fun g : GSem nD τ sig => g.1.1) h⟩
def scEmb : Dev nD × Fin 6 ↪ GSem nD τ sig :=
  ⟨fun ck => ((ck.1 : Thread nD τ), talkSem ck.2), fun _ _ h =>
    Prod.ext (congrArg (fun g : GSem nD τ sig => g.1.1) h) (talkSem_inj (congrArg Prod.snd h))⟩
/-- The barrier cells, and the send and receive cells. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem snd_mem (k : Fin 3) (c : Dev nD) : sndCell k c ∈ (barCells ∪ scCells : Finset (GSem nD τ sig)) := by
  refine Finset.mem_union_right _ (Finset.mem_map.mpr ⟨(c, ⟨k.val, by omega⟩), Finset.mem_univ _, ?_⟩)
  fin_cases k <;> rfl
theorem rcv_mem (k : Fin 3) (c : Dev nD) : rcvCell k c ∈ (barCells ∪ scCells : Finset (GSem nD τ sig)) := by
  refine Finset.mem_union_right _ (Finset.mem_map.mpr ⟨(c, ⟨3 + k.val, by omega⟩), Finset.mem_univ _, ?_⟩)
  fin_cases k <;> rfl

variable (i : Ins F)

/-- What every device may consult: the invariants of all cells under one naming, and that every barrier cell is in round 0. -/
def records (K : GSem nD τ sig → ℕ) : sProp 𝕄 :=
  iprop((bigSep (barCells ∪ scCells) fun g => cellInv ER (talk i) (K g) g) ∗ bigSep barCells fun g => reached ER g 0)

instance records_persistent (K : GSem nD τ sig → ℕ) : BI.Persistent (records i K) := by unfold records; infer_instance

theorem records_inv (K : GSem nD τ sig → ℕ) {g : GSem nD τ sig} (hg : g ∈ (barCells ∪ scCells : Finset (GSem nD τ sig))) :
    records i K ⊢ cellInv ER (talk i) (K g) g := by
  exact BI.sep_and.trans (and_elimL.trans (bigSep_elim hg))
theorem records_reached (K : GSem nD τ sig → ℕ) (c : Dev nD) : records i K ⊢ reached ER (barCell c) 0 := by
  exact BI.sep_and.trans (and_elimR.trans (bigSep_elim (Finset.mem_map_of_mem barEmb (Finset.mem_univ c))))

variable (K : GSem nD τ sig → ℕ) (c : Dev nD)

/-- Telling peer `j` that slot `j` of the receive buffer is free. -/
theorem wp_tell (j : Fin 3) {n : ℕ} (hn : n = 1) (O : CellTallies nD τ sig Unit) {O' : CellTallies nD τ sig Unit}
    (hO : O' = O + tallyAt (barCell (peer j c)) () 1) {k : PUnit → Prog (TpuEff nD τ sig (Elt F) Λ₀ .tc) α} :
    iprop(records i K ∗ owing c O' ∗ dutyTok ER (barCell (peer j c)) 0 j ∗ rAny j c ∗ reached ER (rcvCell j c) 0)
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (peer j c : Thread nD τ) barS n) k) Q) := by
  subst hn
  unfold owing
  iintro ⟨#HR, ⟨%W, HO⟩, Ht, Hs, #Hr⟩ Hk
  iapply (Rounds.wp_signal 𝒱₀ ER (talk i) (c : Thread nD τ) none (dst := (peer j c : Thread nD τ)) (κ := K (barCell (peer j c)))
      (d := j) (by rw [duties_bar]; exact Finset.mem_univ _) (amount_bar i (peer j c) j) () O hO) $$ [HO Ht Hs]
  · isplitr; · iapply (records_inv i K (bar_mem (peer j c))); iexact HR
    isplitl [HO]; · iexact HO
    isplitl [Ht]; · iexact Ht
    isplitl [Hs]
    · rw [payload_bar]; unfold barPay; rw [peer_peer]
      isplitl [Hs]; · iexact Hs
      iexact Hr
    · iapply (records_reached i K (peer j c)); iexact HR
  iintro HO
  iapply Hk
  iexists W; iexact HO

/-- Waiting for all three peers. -/
theorem wp_bar {n : ℕ} (hn : n = 3) {k : PUnit → Prog (TpuEff nD τ sig (Elt F) Λ₀ .tc) α} :
    iprop(records i K ∗ levAts L lv ∗ owing c (Or c) ∗ cred (tallyAt (barCell c) () 3) ∗ atPos ER (barCell c) 0 ∅ 0)
      ⊢ iprop(((owing c (Or c) ∗ atPos ER (barCell c) (0 + 1) ∅ 0 ∗ barPay 0 c ∗ barPay 1 c ∗ barPay 2 c)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS n) k) Q) := by
  subst hn
  unfold owing
  iintro ⟨#HR, #Hlev, ⟨%W, HO⟩, Hc, Hat⟩ Hk
  iapply (Rounds.wp_wait_rest_token 𝒱₀ ER (talk i) (c : Thread nD τ) none (κ := K (barCell c))
      (wpE_semWait_eq 𝒱₀ (c : Thread nD τ) none Set.univ) (Set.mem_univ _) () (O := Or c) (W := W) (R := 0) (m := 0) (T := ∅)
      ((Nat.zero_add 3).trans (expect_bar i c).symm)) $$ [Hc HO Hat]
  · isplitr; · iapply (records_inv i K (bar_mem c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar i c)) $$ Hpay
  iapply Hk
  isplitl [HO]; · iexists _; iexact HO
  isplitl [Hat]; · iexact Hat
  iexact Hp

/-- Sending the message to peer `j`. -/
theorem wp_message (j : Fin 3) {n : Dev nD} (hn : n = peer j c) (O : CellTallies nD τ sig Unit) {O' : CellTallies nD τ sig Unit}
    (hO : O' = O + tallyAt (rcvCell j (peer j c)) () N)
    {hsc : (rSl j : Memref sig (Dev.tc n : Thread nD τ).2.kind .vmem S1024x2 .f32).view.ref.isScScratch = false}
    {h1 : (sM : Memref sig .tc .vmem S1024x2 .f32).view.WordExact} {h2 : (rSl j).view.WordExact}
    {h3 : DmaTarget.Typed .vmem (.dma (rS j)) (.remote (Dev.tc n : Thread nD τ) (rSl j) (.dma (sS j)) hsc)}
    {k : PUnit → Prog (TpuEff nD τ sig (Elt F) Λ₀ .tc) α} (hN : (rSl j).view.dmaCredit = N) :
    iprop(records i K ∗ sAt i (qS j) c ∗ rAny j (peer j c) ∗ owing c O'
        ∗ dutyTok ER (sndCell j c) 0 0 ∗ reached ER (sndCell j c) 0
        ∗ dutyTok ER (rcvCell j (peer j c)) 0 0 ∗ reached ER (rcvCell j (peer j c)) 0)
      ⊢ iprop(((cred (tallyAt (sndCell j c) () N) ∗ owing c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma sM (.remote (Dev.tc n : Thread nD τ) (rSl j) (.dma (sS j)) hsc) (.dma (rS j)) h1 h2 h3) k) Q) := by
  subst hn
  unfold owing rAny sAt
  iintro ⟨#HR, Hs, ⟨%fd, Hd⟩, ⟨%W, HO⟩, Ht1, #Hr1, Ht2, #Hr2⟩ Hk
  iapply (Rounds.wp_send_pointsTo 𝒱₀ ER (talk i) (c : Thread nD τ) none (c' := (peer j c : Thread nD τ)) (src := sM) (dst := rSl j)
      (sS := .dma (sS j)) (sem := .dma (rS j)) (q := qS j) (fs := i.snd c) (κ₁ := K (sndCell j c)) (κ₂ := K (rcvCell j (peer j c)))
      (r₁ := 0) (r₂ := 0) (d₁ := 0) (d₂ := 0) (fd := fd)
      (by rw [duties_snd]; exact Finset.mem_singleton_self _) (by rw [duties_rcv]; exact Finset.mem_singleton_self _)
      () () N hN (amount_snd i c j 0) (amount_rcv i (peer j c) j 0) O hO (W := W)
      (by rw [payload_snd]; exact BI.Entails.refl _)
      (by
        rw [payload_rcv]; unfold rAt; rw [peer_peer]
        iintro H
        iexists _
        isplitr [H]
        rotate_left
        · iexact H
        ipureintro
        exact (View.read_write_univ _ _).trans (View.read_whole _ _))) $$ [Hs Hd HO Ht1 Ht2]
  · isplitr; · iapply (records_inv i K (snd_mem j c)); iexact HR
    isplitr; · iapply (records_inv i K (rcv_mem j (peer j c))); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Waiting until the message to peer `j` has left: the share of the send buffer is back. -/
theorem wp_sent (j : Fin 3) {src d : Memref sig .tc .vmem S1024x2 .f32} {h1 : src.view.WordExact} {h2 : d.view.WordExact}
    {k : PUnit → Prog (TpuEff nD τ sig (Elt F) Λ₀ .tc) α} (hN : d.view.dmaCredit = N) :
    iprop(records i K ∗ cred (tallyAt (sndCell j c) () N) ∗ owing c 0 ∗ atPos ER (sndCell j c) 0 ∅ 0)
      ⊢ iprop(((owing c 0 ∗ atPos ER (sndCell j c) (0 + 1) ∅ 0 ∗ sAt i (qS j) c)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sS j) src d h1 h2) k) Q) := by
  unfold owing
  iintro ⟨#HR, Hc, ⟨%W, HO⟩, Hat⟩ Hk
  iapply (Rounds.wp_wait_rest_token 𝒱₀ ER (talk i) (c : Thread nD τ) none (κ := K (sndCell j c))
      (wpE_waitDma2_eq 𝒱₀ (c : Thread nD τ) none Set.univ) (Set.mem_univ _) () (O := 0) (W := W) (R := 0) (m := 0) (T := ∅)
      ((Nat.zero_add _).trans (hN.trans (expect_snd i c j).symm))) $$ [Hc HO Hat]
  · isplitr; · iapply (records_inv i K (snd_mem j c)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_snd i c j)) $$ Hpay
  iapply Hk
  isplitl [HO]; · iexists _; iexact HO
  isplitl [Hat]; · iexact Hat
  iexact Hp

/-- Waiting for peer `j`'s message. -/
theorem wp_received (j : Fin 3) {src d : Memref sig .tc .vmem S1024x2 .f32} {h1 : src.view.WordExact} {h2 : d.view.WordExact}
    {k : PUnit → Prog (TpuEff nD τ sig (Elt F) Λ₀ .tc) α} (hN : d.view.dmaCredit = N) :
    iprop(records i K ∗ cred (tallyAt (rcvCell j c) () N) ∗ owing c 0 ∗ atPos ER (rcvCell j c) 0 ∅ 0)
      ⊢ iprop(((owing c 0 ∗ atPos ER (rcvCell j c) (0 + 1) ∅ 0 ∗ rAt j c (i.snd (peer j c)))
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (rS j) src d h1 h2) k) Q) := by
  unfold owing
  iintro ⟨#HR, Hc, ⟨%W, HO⟩, Hat⟩ Hk
  iapply (Rounds.wp_wait_rest_token 𝒱₀ ER (talk i) (c : Thread nD τ) none (κ := K (rcvCell j c))
      (wpE_waitDma2_eq 𝒱₀ (c : Thread nD τ) none Set.univ) (Set.mem_univ _) () (O := 0) (W := W) (R := 0) (m := 0) (T := ∅)
      ((Nat.zero_add _).trans (hN.trans (expect_rcv i c j).symm))) $$ [Hc HO Hat]
  · isplitr; · iapply (records_inv i K (rcv_mem j c)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_rcv i c j)) $$ Hpay
  iapply Hk
  isplitl [HO]; · iexists _; iexact HO
  isplitl [Hat]; · iexact Hat
  iexact Hp

end Cert.Nll

end
-- ==== Proof.Tiles.lean ====
/-
  The walk of one device over its eight tiles: the parts of the body that copy tiles in and add up the logits.
-/
module

public import proofs.«01_k».proof.Proof.Steps

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} {Q : α → sProp (MT nD τ sig Unit (Elt F) ℕ UU ℕ)}
variable {hx : (xM : Memref sig .tc .vmem S1024x2048 .f32).IsWhole} {hw : (wM : Memref sig .tc .hbm S2048x16384 .f32).IsWhole}
  {hl : (lM : Memref sig .tc .vmem S1024x1 .i32).IsWhole} {ho : (oM : Memref sig .tc .vmem S1024x1 .f32).IsWhole}
  {hb : (bM : Memref sig .tc .vmem S1024x2048 .bf16).IsWhole} {ht : (tM : Memref sig .tc .vmem S2x2048x1024 .f32).IsWhole}
  {hs : (sM : Memref sig .tc .vmem S1024x2 .f32).IsWhole} {hr : (rM : Memref sig .tc .vmem S3x1024x2 .f32).IsWhole}
variable (i : Ins F) (K : GSem nD τ sig → ℕ) (c : Dev nD)

/-! ## The words and the column numbers -/

/-- The device's place along the first and the second mesh axis, and its first column within its block of the weights. -/
abbrev vx (c : Dev nD) : BitVec 32 := Scalar.remsi (Scalar.divsi (Dev.word c) 2#32) 2#32
abbrev vy (c : Dev nD) : BitVec 32 := Scalar.remsi (Scalar.divsi (Dev.word c) 1#32) 2#32
abbrev vc (c : Dev nD) : BitVec 32 := Scalar.muli (vx c) 8192#32
abbrev io : IVec S1024x1024 32 := iota .tc S1024x1024 32 [1] iota_S1024x1024_d1_w32

/-- A loaded slot's logits. -/
theorem logit_of (xb : FVec F S1024x2048 .bf16) {u : FVec F S1x2048x1024 .f32} {v : FVec F S2048x1024 .f32}
    (h : shapeCast S2048x1024 u shapeCasts_S1x2048x1024_S2048x1024 = v) : k0_pay5 xb u = logit xb v := by
  subst h; rfl

/-! ## One step of the walk -/

/-- The share of the weights each slot's copies read under. -/
abbrev qW : Fin 2 → PosShare TreeShare
  | 0 => (fullShare : PosShare TreeShare).left
  | 1 => (fullShare : PosShare TreeShare).right

/-- Between two steps: tile `t` on its way into slot `b`, the other slot free, the activations and labels in place. -/
def pipe (c : Dev nD) (t : Fin 8) (b b' : Fin 2) : sProp 𝕄 :=
  iprop(levAts L lv ∗ tFly c (srcM c t) (tSl b) (tS b) (qW b) (i.w c)
    ∗ pts c main_arg1 (qW b') (i.w c) ∗ tAny c (tSl b') ∗ semVal ((c : Thread nD τ), .dma (tS b')) 0
    ∗ pts c cc0_scratch0 fullShare (i.xb c) ∗ pts c cc0_stg1_0 fullShare (i.l c) ∗ owing c (Or c))

theorem read_xb (f : FVec F S1024x2048 .bf16) : (bM : Memref sig .tc .vmem S1024x2048 .bf16).view.readAt (Elt F)
    (Rect.unit (s := S1024x2048) ![0, 0] S1024x2048.size inb_S1024x2048_S1024x2048_0_0).toLoadRect f = f :=
  Memref.readAt_unit_zero (Elt F) cc0_scratch0 off2 _ f
theorem read_x (f : FVec F S1024x2048 .f32) : (xM : Memref sig .tc .vmem S1024x2048 .f32).view.readAt (Elt F)
    (Rect.unit (s := S1024x2048) ![0, 0] S1024x2048.size inb_S1024x2048_S1024x2048_0_0).toLoadRect f = f :=
  Memref.readAt_unit_zero (Elt F) cc0_stg0_0 off2 _ f
theorem read_l (f : IVec S1024x1 32) : (lM : Memref sig .tc .vmem S1024x1 .i32).view.readAt (Elt F)
    (Rect.unit (s := S1024x1) ![0, 0] S1024x1.size inb_S1024x1_S1024x1_0_0).toLoadRect f = f :=
  Memref.readAt_unit_zero (Elt F) cc0_stg1_0 off2 _ f
theorem write_xb (f v : FVec F S1024x2048 .bf16) : ((bM : Memref sig .tc .vmem S1024x2048 .bf16).access
    (Rect.unit (s := S1024x2048) ![0, 0] S1024x2048.size inb_S1024x2048_S1024x2048_0_0)).write (Elt F) f v Finset.univ = v :=
  Memref.write_access_unit_zero_univ (Elt F) cc0_scratch0 off2 _ f v

/-- Wait for tile `t` in slot 0 while tile `t'` starts into slot 1, then load. -/
theorem wp_step0 (t t' : Fin 8)
    {h1 : (srcM c t').view.WordExact} {h2 : (tSl 1).view.WordExact} {h3 : (DmaTarget.here (nD := nD) (τ := τ) (p := .tc) (tSl 1)).Typed .hbm (.dma (tS 1))}
    {h4 : (srcM c t).view.WordExact} {h5 : (tSl 0).view.WordExact}
    {h6 : (bM : Memref sig .tc .vmem S1024x2048 .bf16).view.LoadsAt (Rect.unit (s := S1024x2048) ![0, 0] S1024x2048.size inb_S1024x2048_S1024x2048_0_0).toLoadRect}
    {h7 : (tM : Memref sig .tc .vmem S2x2048x1024 .f32).view.LoadsAt (Rect.unit (s := S2x2048x1024) ![0, 0, 0] S1x2048x1024.size inb_S2x2048x1024_S1x2048x1024_0_0_0).toLoadRect}
    {h8 : (lM : Memref sig .tc .vmem S1024x1 .i32).view.LoadsAt (Rect.unit (s := S1024x1) ![0, 0] S1024x1.size inb_S1024x1_S1024x1_0_0).toLoadRect}
    {k : (S1024x2048.Idx → Elt F .bf16) → (S1x2048x1024.Idx → Elt F .f32) → (S1024x1.Idx → Elt F .i32) → Prog (TpuEff nD τ sig (Elt F) Λ₀ .tc) α} :
    pipe i c t 0 1
      ⊢ iprop((∀ u : FVec F S1x2048x1024 .f32, ⌜shapeCast S2048x1024 u shapeCasts_S1x2048x1024_S2048x1024 = i.tile c t⌝ -∗ pipe i c t' 1 0
            -∗ wp frame (wpE (defs₀ (F := F)) 𝒱₀ (c : Thread nD τ) none) Set.univ (k (i.xb c) u (i.l c)) Q)
        -∗ wp frame (wpE (defs₀ (F := F)) 𝒱₀ (c : Thread nD τ) none) Set.univ
            (.op (.enqueueDma (srcM c t') (.here (tSl 1)) (.dma (tS 1)) h1 h2 h3) fun _ =>
              .op (.waitDma2 (tS 0) (srcM c t) (tSl 0) h4 h5) fun _ =>
              .op (.load bM (Rect.unit (s := S1024x2048) ![0, 0] S1024x2048.size inb_S1024x2048_S1024x2048_0_0).toLoadRect h6) fun xb =>
              .op (.load tM (Rect.unit (s := S2x2048x1024) ![0, 0, 0] S1x2048x1024.size inb_S2x2048x1024_S1x2048x1024_0_0_0).toLoadRect h7) fun u =>
              .op (.load lM (Rect.unit (s := S1024x1) ![0, 0] S1024x1.size inb_S1024x1_S1024x1_0_0).toLoadRect h8) fun lab => k xb u lab) Q) := by
  unfold pipe
  iintro ⟨#HL, Hf, Hw, Ha, Hz, Hb, Hl, HO⟩ Hk
  iapply (wp_tile_start c (src := srcM c t') (d := tSl 1) rfl) $$ [Hw Ha Hz]
  · isplitl [Hw]; · iexact Hw
    isplitl [Ha] <;> iassumption
  iintro Hf'
  iapply (wp_tile_wait c (src := srcM c t) (d := tSl 0) rfl) $$ [Hf HO]
  · isplitl [Hf]; · iexact Hf
    isplitl [HO]; · iexact HO
    iapply (mayWait_tile c 0); iexact HL
  iintro ⟨Ht, Hw, Hz, HO⟩
  iapply (wp_load_of c (m := bM) (read_xb (i.xb c))) $$ Hb
  iintro Hb
  iapply (wp_load_slot0 c) $$ Ht
  iintro %u %hu Ht
  iapply (wp_load_of c (m := lM) (read_l (i.l c))) $$ Hl
  iintro Hl
  iapply Hk
  · ipureintro; exact hu
  isplitr; · iexact HL
  isplitl [Hf']; · iexact Hf'
  isplitl [Hw]; · iexact Hw
  isplitl [Ht]; · iapply tAt_any; iexact Ht
  isplitl [Hz]; · iexact Hz
  isplitl [Hb]; · iexact Hb
  isplitl [Hl]; · iexact Hl
  iexact HO

/-- Wait for tile `t` in slot 1 while tile `t'` starts into slot 0, then load. -/
theorem wp_step1 (t t' : Fin 8)
    {h1 : (srcM c t').view.WordExact} {h2 : (tSl 0).view.WordExact} {h3 : (DmaTarget.here (nD := nD) (τ := τ) (p := .tc) (tSl 0)).Typed .hbm (.dma (tS 0))}
    {h4 : (srcM c t).view.WordExact} {h5 : (tSl 1).view.WordExact}
    {h6 : (bM : Memref sig .tc .vmem S1024x2048 .bf16).view.LoadsAt (Rect.unit (s := S1024x2048) ![0, 0] S1024x2048.size inb_S1024x2048_S1024x2048_0_0).toLoadRect}
    {h7 : (tM : Memref sig .tc .vmem S2x2048x1024 .f32).view.LoadsAt (Rect.unit (s := S2x2048x1024) ![1, 0, 0] S1x2048x1024.size inb_S2x2048x1024_S1x2048x1024_1_0_0).toLoadRect}
    {h8 : (lM : Memref sig .tc .vmem S1024x1 .i32).view.LoadsAt (Rect.unit (s := S1024x1) ![0, 0] S1024x1.size inb_S1024x1_S1024x1_0_0).toLoadRect}
    {k : (S1024x2048.Idx → Elt F .bf16) → (S1x2048x1024.Idx → Elt F .f32) → (S1024x1.Idx → Elt F .i32) → Prog (TpuEff nD τ sig (Elt F) Λ₀ .tc) α} :
    pipe i c t 1 0
      ⊢ iprop((∀ u : FVec F S1x2048x1024 .f32, ⌜shapeCast S2048x1024 u shapeCasts_S1x2048x1024_S2048x1024 = i.tile c t⌝ -∗ pipe i c t' 0 1
            -∗ wp frame (wpE (defs₀ (F := F)) 𝒱₀ (c : Thread nD τ) none) Set.univ (k (i.xb c) u (i.l c)) Q)
        -∗ wp frame (wpE (defs₀ (F := F)) 𝒱₀ (c : Thread nD τ) none) Set.univ
            (.op (.enqueueDma (srcM c t') (.here (tSl 0)) (.dma (tS 0)) h1 h2 h3) fun _ =>
              .op (.waitDma2 (tS 1) (srcM c t) (tSl 1) h4 h5) fun _ =>
              .op (.load bM (Rect.unit (s := S1024x2048) ![0, 0] S1024x2048.size inb_S1024x2048_S1024x2048_0_0).toLoadRect h6) fun xb =>
              .op (.load tM (Rect.unit (s := S2x2048x1024) ![1, 0, 0] S1x2048x1024.size inb_S2x2048x1024_S1x2048x1024_1_0_0).toLoadRect h7) fun u =>
              .op (.load lM (Rect.unit (s := S1024x1) ![0, 0] S1024x1.size inb_S1024x1_S1024x1_0_0).toLoadRect h8) fun lab => k xb u lab) Q) := by
  unfold pipe
  iintro ⟨#HL, Hf, Hw, Ha, Hz, Hb, Hl, HO⟩ Hk
  iapply (wp_tile_start c (src := srcM c t') (d := tSl 0) rfl) $$ [Hw Ha Hz]
  · isplitl [Hw]; · iexact Hw
    isplitl [Ha] <;> iassumption
  iintro Hf'
  iapply (wp_tile_wait c (src := srcM c t) (d := tSl 1) rfl) $$ [Hf HO]
  · isplitl [Hf]; · iexact Hf
    isplitl [HO]; · iexact HO
    iapply (mayWait_tile c 1); iexact HL
  iintro ⟨Ht, Hw, Hz, HO⟩
  iapply (wp_load_of c (m := bM) (read_xb (i.xb c))) $$ Hb
  iintro Hb
  iapply (wp_load_slot1 c) $$ Ht
  iintro %u %hu Ht
  iapply (wp_load_of c (m := lM) (read_l (i.l c))) $$ Hl
  iintro Hl
  iapply Hk
  · ipureintro; exact hu
  isplitr; · iexact HL
  isplitl [Hf']; · iexact Hf'
  isplitl [Hw]; · iexact Hw
  isplitl [Ht]; · iapply tAt_any; iexact Ht
  isplitl [Hz]; · iexact Hz
  isplitl [Hb]; · iexact Hb
  isplitl [Hl]; · iexact Hl
  iexact HO

/-- Tile 1: its logits, and the sums one tile further. -/
theorem wp_part3 {Q : (Σ' (v72 : FVec F S1024x1024 .f32) (v76 : FVec F S1024x1 .f32), FVec F S1024x1 .f32) → sProp (MT nD τ sig Unit (Elt F) ℕ UU ℕ)} :
    iprop(pipe i c 1 1 0 ∗ (pipe i c 2 0 1 -∗ Q ⟨i.lg c 1, i.s0 c, i.t0 c⟩))
      ⊢ wp frame (wpE (defs₀ (F := F)) 𝒱₀ (c : Thread nD τ) none) Set.univ
          (k0_part3 (F := F) xM hx wM hw lM hl oM ho bM hb tM ht sM hs rM hr cc0_scratch4 cc0_scratch5 cc0_scratch6 c (vy c) (vc c) (k0_pay3 (F := F)) (k0_pay4 (F := F)) io (i.lg c 0)) Q := by
  rw [k0_part3_eq_skeleton]; unfold k0_part3_skel
  simp only [semSignalWord, semWaitWord, Prog.lift, Prog.bind_op, Prog.bind_ret, Prog.pure_eq_ret, wp_deviceId]
  iintro ⟨Hp, Hk⟩
  iapply (wp_step1 i c 1 2) $$ Hp
  iintro %u %hu Hp
  rw [wp_ret]; imodintro
  rw [show k0_pay6 (i.xb c) u = i.lg c 1 from logit_of (i.xb c) hu]
  rw [show k0_pay7 (k0_pay3 (F := F)) (i.lg c 0) = i.s0 c from rfl, show k0_pay8 (vy c) (vc c) (k0_pay4 (F := F)) io (i.lg c 0) (i.l c) = i.t0 c from rfl]
  iapply Hk; iexact Hp

/-- Tile 2: its logits, and the sums one tile further. -/
theorem wp_part4 {Q : (Σ' (v107 : FVec F S1024x1024 .f32) (v111 : FVec F S1024x1 .f32), FVec F S1024 .f32) → sProp (MT nD τ sig Unit (Elt F) ℕ UU ℕ)} :
    iprop(pipe i c 2 0 1 ∗ (pipe i c 3 1 0 -∗ Q ⟨i.lg c 2, i.s1 c, k0_pay11 (vy c) (vc c) io (i.lg c 1) (i.l c)⟩))
      ⊢ wp frame (wpE (defs₀ (F := F)) 𝒱₀ (c : Thread nD τ) none) Set.univ
          (k0_part4 (F := F) xM hx wM hw lM hl oM ho bM hb tM ht sM hs rM hr cc0_scratch4 cc0_scratch5 cc0_scratch6 c (vy c) (vc c) io (i.lg c 1) (i.s0 c)) Q := by
  rw [k0_part4_eq_skeleton]; unfold k0_part4_skel
  simp only [semSignalWord, semWaitWord, Prog.lift, Prog.bind_op, Prog.bind_ret, Prog.pure_eq_ret, wp_deviceId]
  iintro ⟨Hp, Hk⟩
  iapply (wp_step0 i c 2 3) $$ Hp
  iintro %u %hu Hp
  rw [wp_ret]; imodintro
  rw [show k0_pay9 (i.xb c) u = i.lg c 2 from logit_of (i.xb c) hu]
  rw [show k0_pay10 (i.lg c 1) (i.s0 c) = i.s1 c from rfl]
  iapply Hk; iexact Hp

/-- Tile 3: its logits, and the sums one tile further. -/
theorem wp_part5 {Q : (Σ' (v125 : FVec F S1024x1 .f32) (v142 : FVec F S1024x1024 .f32) (v146 : FVec F S1024x1 .f32), FVec F S1024x1024 .f32) → sProp (MT nD τ sig Unit (Elt F) ℕ UU ℕ)} :
    iprop(pipe i c 3 1 0 ∗ (pipe i c 4 0 1 -∗ Q ⟨i.t1 c, i.lg c 3, i.s2 c, k0_pay15 (vy c) (vc c) io (i.lg c 2) (i.l c)⟩))
      ⊢ wp frame (wpE (defs₀ (F := F)) 𝒱₀ (c : Thread nD τ) none) Set.univ
          (k0_part5 (F := F) xM hx wM hw lM hl oM ho bM hb tM ht sM hs rM hr cc0_scratch4 cc0_scratch5 cc0_scratch6 c (vy c) (vc c) io (i.t0 c) (i.lg c 2) (i.s1 c) (k0_pay11 (vy c) (vc c) io (i.lg c 1) (i.l c))) Q := by
  rw [k0_part5_eq_skeleton]; unfold k0_part5_skel
  simp only [semSignalWord, semWaitWord, Prog.lift, Prog.bind_op, Prog.bind_ret, Prog.pure_eq_ret, wp_deviceId]
  iintro ⟨Hp, Hk⟩
  iapply (wp_step1 i c 3 4) $$ Hp
  iintro %u %hu Hp
  rw [wp_ret]; imodintro
  rw [show k0_pay13 (i.xb c) u = i.lg c 3 from logit_of (i.xb c) hu]
  rw [show k0_pay12 (i.t0 c) (k0_pay11 (vy c) (vc c) io (i.lg c 1) (i.l c)) = i.t1 c from rfl, show k0_pay14 (i.lg c 2) (i.s1 c) = i.s2 c from rfl]
  iapply Hk; iexact Hp

/-- Tile 4: its logits, and the sums one tile further. -/
theorem wp_part6 {Q : (Σ' (v160 : FVec F S1024x1 .f32) (v177 : FVec F S1024x1024 .f32) (v181 : FVec F S1024x1 .f32) (v190 : IVec S1024x1024 1), F .f32) → sProp (MT nD τ sig Unit (Elt F) ℕ UU ℕ)} :
    iprop(pipe i c 4 0 1 ∗ (pipe i c 5 1 0 -∗ Q ⟨i.t2 c, i.lg c 4, i.s3 c, k0_pay19 (F := F) (vy c) (vc c) io (i.l c), Scalar.ofBits .f32 0x00000000#32⟩))
      ⊢ wp frame (wpE (defs₀ (F := F)) 𝒱₀ (c : Thread nD τ) none) Set.univ
          (k0_part6 (F := F) xM hx wM hw lM hl oM ho bM hb tM ht sM hs rM hr cc0_scratch4 cc0_scratch5 cc0_scratch6 c (vy c) (vc c) io (i.t1 c) (i.lg c 3) (i.s2 c) (k0_pay15 (vy c) (vc c) io (i.lg c 2) (i.l c))) Q := by
  rw [k0_part6_eq_skeleton]; unfold k0_part6_skel
  simp only [semSignalWord, semWaitWord, Prog.lift, Prog.bind_op, Prog.bind_ret, Prog.pure_eq_ret, wp_deviceId]
  iintro ⟨Hp, Hk⟩
  iapply (wp_step0 i c 4 5) $$ Hp
  iintro %u %hu Hp
  rw [wp_ret]; imodintro
  rw [show k0_pay17 (i.xb c) u = i.lg c 4 from logit_of (i.xb c) hu]
  rw [show k0_pay16 (i.t1 c) (k0_pay15 (vy c) (vc c) io (i.lg c 2) (i.l c)) = i.t2 c from rfl, show k0_pay18 (i.lg c 3) (i.s2 c) = i.s3 c from rfl]
  iapply Hk; iexact Hp

/-- Tile 5: its logits, and the sums one tile further. -/
theorem wp_part7 {Q : (Σ' (v195 : FVec F S1024x1 .f32) (v212 : FVec F S1024x1024 .f32) (v216 : FVec F S1024x1 .f32), IVec S1024x1024 32) → sProp (MT nD τ sig Unit (Elt F) ℕ UU ℕ)} :
    iprop(pipe i c 5 1 0 ∗ (pipe i c 6 0 1 -∗ Q ⟨i.t3 c, i.lg c 5, i.s4 c, k0_pay23 (F := F) (vy c) (vc c) (i.l c)⟩))
      ⊢ wp frame (wpE (defs₀ (F := F)) 𝒱₀ (c : Thread nD τ) none) Set.univ
          (k0_part7 (F := F) xM hx wM hw lM hl oM ho bM hb tM ht sM hs rM hr cc0_scratch4 cc0_scratch5 cc0_scratch6 c (vy c) (vc c) (i.lg c 3) (i.t2 c) (i.lg c 4) (i.s3 c) (k0_pay19 (F := F) (vy c) (vc c) io (i.l c)) (Scalar.ofBits .f32 0x00000000#32)) Q := by
  rw [k0_part7_eq_skeleton]; unfold k0_part7_skel
  simp only [semSignalWord, semWaitWord, Prog.lift, Prog.bind_op, Prog.bind_ret, Prog.pure_eq_ret, wp_deviceId]
  iintro ⟨Hp, Hk⟩
  iapply (wp_step1 i c 5 6) $$ Hp
  iintro %u %hu Hp
  rw [wp_ret]; imodintro
  rw [show k0_pay21 (i.xb c) u = i.lg c 5 from logit_of (i.xb c) hu]
  rw [show k0_pay20 (i.lg c 3) (i.t2 c) (k0_pay19 (F := F) (vy c) (vc c) io (i.l c)) (Scalar.ofBits .f32 0x00000000#32) = i.t3 c from rfl, show k0_pay22 (i.lg c 4) (i.s3 c) = i.s4 c from rfl]
  iapply Hk; iexact Hp

/-- Tile 6: its logits, and the sums one tile further. -/
theorem wp_part8 {Q : (Σ' (v230 : FVec F S1024x1 .f32) (v247 : FVec F S1024x1024 .f32) (v251 : FVec F S1024x1 .f32) (v256 : IVec S1024x1 32), IVec S1024x1 32) → sProp (MT nD τ sig Unit (Elt F) ℕ UU ℕ)} :
    iprop(pipe i c 6 0 1 ∗ (pipe i c 7 1 0 -∗ Q ⟨i.t4 c, i.lg c 6, i.s5 c, k0_pay27 (F := F) (i.l c), k0_pay28 (vy c) (vc c)⟩))
      ⊢ wp frame (wpE (defs₀ (F := F)) 𝒱₀ (c : Thread nD τ) none) Set.univ
          (k0_part8 (F := F) xM hx wM hw lM hl oM ho bM hb tM ht sM hs rM hr cc0_scratch4 cc0_scratch5 cc0_scratch6 c (vy c) (vc c) io (i.lg c 4) (i.t3 c) (i.lg c 5) (i.s4 c) (k0_pay23 (F := F) (vy c) (vc c) (i.l c))) Q := by
  rw [k0_part8_eq_skeleton]; unfold k0_part8_skel
  simp only [semSignalWord, semWaitWord, Prog.lift, Prog.bind_op, Prog.bind_ret, Prog.pure_eq_ret, wp_deviceId]
  iintro ⟨Hp, Hk⟩
  iapply (wp_step0 i c 6 7) $$ Hp
  iintro %u %hu Hp
  rw [wp_ret]; imodintro
  rw [show k0_pay25 (i.xb c) u = i.lg c 6 from logit_of (i.xb c) hu]
  rw [show k0_pay24 io (i.lg c 4) (i.t3 c) (k0_pay23 (F := F) (vy c) (vc c) (i.l c)) = i.t4 c from rfl, show k0_pay26 (i.lg c 5) (i.s4 c) = i.s5 c from rfl]
  iapply Hk; iexact Hp

/-- Before the walk: the first tile starts, the activations are rounded, the first peer is told. -/
theorem wp_part1 {Q : (Σ' (d0 : Dev nD) (v2 : BitVec 32) (v5 : BitVec 32) (v6 : BitVec 32) (v19 : BitVec 32) (v20 : BitVec 32) (v21 : BitVec 32) (v22 : BitVec 32) (v23 : Sems sig S_), BitVec 32) → sProp (MT nD τ sig Unit (Elt F) ℕ UU ℕ)} {g : FVec F S1024x2048 .bf16} :
    iprop(records i K ∗ pts c cc0_stg0_0 fullShare (i.x c) ∗ pts c main_arg1 (qW 0) (i.w c) ∗ tAny c (tSl 0)
        ∗ semVal ((c : Thread nD τ), .dma (tS 0)) 0 ∗ pts c cc0_scratch0 fullShare g ∗ owing c (O₀ c)
        ∗ dutyTok ER (barCell (peer 0 c)) 0 0 ∗ rAny 0 c ∗ reached ER (rcvCell 0 c) 0
        ∗ ((pts c cc0_stg0_0 fullShare (i.x c) ∗ tFly c (srcM c 0) (tSl 0) (tS 0) (qW 0) (i.w c) ∗ pts c cc0_scratch0 fullShare (i.xb c) ∗ owing c (Ob₁ c))
          -∗ Q ⟨c, vx c, vy c, vc c, Scalar.subi 1#32 (vx c), Scalar.subi 1#32 (vy c), Scalar.subi 1#32 (vx c), Scalar.subi 1#32 (vy c),
              SemArray.scalar (sig.barrier 0 rfl), Scalar.addi 0#32 (Scalar.muli (vx c) 2#32)⟩))
      ⊢ wp frame (wpE (defs₀ (F := F)) 𝒱₀ (c : Thread nD τ) none) Set.univ
          (k0_part1 (F := F) xM hx wM hw lM hl oM ho bM hb tM ht sM hs rM hr cc0_scratch4 cc0_scratch5 cc0_scratch6) Q := by
  rw [k0_part1_eq_skeleton]; unfold k0_part1_skel
  simp only [semSignalWord, semWaitWord, Prog.lift, Prog.bind_op, Prog.bind_ret, Prog.pure_eq_ret, wp_deviceId]
  iintro ⟨#HR, Hx, Hw, Ha, Hz, Hb, HO, Ht, Hs, #Hr, Hk⟩
  iapply (wp_tile_start c (src := srcM c 0) (d := tSl 0) rfl) $$ [Hw Ha Hz]
  · isplitl [Hw]; · iexact Hw
    isplitl [Ha] <;> iassumption
  iintro Hf
  iapply (wp_load_of c (m := xM) (read_x (i.x c))) $$ Hx; iintro Hx
  iapply (wp_load_of c (m := bM) (read_xb g)) $$ Hb; iintro Hb
  iapply (wp_store 𝒱₀ (c : Thread nD τ) none Set.univ (m := bM) (r := Rect.unit (s := S1024x2048) ![0, 0] S1024x2048.size inb_S1024x2048_S1024x2048_0_0)
    (Mk := Finset.univ) (Finset.subset_univ _)) $$ Hb
  iintro Hb
  rw [write_xb, dev1_eq]
  iapply (wp_tell i K c 0 (by decide) (Ob₁ c) rfl) $$ [HO Ht Hs]
  · isplitr; · iexact HR
    isplitl [HO]; · iexact HO
    isplitl [Ht]; · iexact Ht
    isplitl [Hs]; · iexact Hs
    iexact Hr
  iintro HO
  rw [wp_ret]; imodintro
  iapply Hk
  isplitl [Hx]; · iexact Hx
  isplitl [Hf]; · iexact Hf
  isplitl [Hb]; · iexact Hb
  iexact HO

/-- The other two peers are told, all three are waited for, the second tile starts and the first is there. -/
theorem wp_part2 {Q : (Σ' (v36 : FVec F S1024x1 .f32) (v37 : FVec F S1024x1 .f32) (v38 : IVec S1024x1024 32), FVec F S1024x1024 .f32) → sProp (MT nD τ sig Unit (Elt F) ℕ UU ℕ)} {v20 v21 v22 v29 : BitVec 32} :
    iprop(records i K ∗ levAts L lv ∗ (tFly c (srcM c 0) (tSl 0) (tS 0) (qW 0) (i.w c) ∗ pts c main_arg1 (qW 1) (i.w c) ∗ tAny c (tSl 1)
          ∗ semVal ((c : Thread nD τ), .dma (tS 1)) 0 ∗ pts c cc0_scratch0 fullShare (i.xb c) ∗ pts c cc0_stg1_0 fullShare (i.l c))
        ∗ (owing c (Ob₁ c) ∗ dutyTok ER (barCell (peer 1 c)) 0 1 ∗ dutyTok ER (barCell (peer 2 c)) 0 2 ∗ rAny 1 c ∗ rAny 2 c)
        ∗ reached ER (rcvCell 1 c) 0 ∗ reached ER (rcvCell 2 c) 0
        ∗ cred (tallyAt (barCell c) () 3) ∗ atPos ER (barCell c) 0 ∅ 0
        ∗ ((pipe i c 1 1 0 ∗ atPos ER (barCell c) (0 + 1) ∅ 0 ∗ barPay 0 c ∗ barPay 1 c ∗ barPay 2 c)
          -∗ Q ⟨k0_pay3, k0_pay4, io, i.lg c 0⟩))
      ⊢ wp frame (wpE (defs₀ (F := F)) 𝒱₀ (c : Thread nD τ) none) Set.univ
          (k0_part2 (F := F) xM hx wM hw lM hl oM ho bM hb tM ht sM hs rM hr cc0_scratch4 cc0_scratch5 cc0_scratch6 c (vc c) v20 v21 v22 (SemArray.scalar (sig.barrier 0 rfl)) v29) Q := by
  rw [k0_part2_eq_skeleton]; unfold k0_part2_skel
  simp only [semSignalWord, semWaitWord, Prog.lift, Prog.bind_op, Prog.bind_ret, Prog.pure_eq_ret, wp_deviceId]
  iintro ⟨#HR, #HL, ⟨Hf, Hw, Ha, Hz, Hb, Hl⟩, ⟨HO, Ht1, Ht2, Hs1, Hs2⟩, #Hr1, #Hr2, Hc, Hat, Hk⟩
  rw [dev2_eq, dev3_eq]
  iapply (wp_tell i K c 1 (by decide) (Ob₂ c) rfl) $$ [HO Ht1 Hs1]
  · isplitr; · iexact HR
    isplitl [HO]; · iexact HO
    isplitl [Ht1]; · iexact Ht1
    isplitl [Hs1]; · iexact Hs1
    iexact Hr1
  iintro HO
  iapply (wp_tell i K c 2 (by decide) (Or c) rfl) $$ [HO Ht2 Hs2]
  · isplitr; · iexact HR
    isplitl [HO]; · iexact HO
    isplitl [Ht2]; · iexact Ht2
    isplitl [Hs2]; · iexact Hs2
    iexact Hr2
  iintro HO
  iapply (wp_bar i K c (by decide)) $$ [HO Hc Hat]
  · isplitr; · iexact HR
    isplitr; · iexact HL
    isplitl [HO]; · iexact HO
    isplitl [Hc] <;> iassumption
  iintro ⟨HO, Hat, Hp⟩
  iapply (wp_tile_start c (src := srcM c 1) (d := tSl 1) rfl) $$ [Hw Ha Hz]
  · isplitl [Hw]; · iexact Hw
    isplitl [Ha] <;> iassumption
  iintro Hf'
  iapply (wp_tile_wait c (src := srcM c 0) (d := tSl 0) rfl) $$ [Hf HO]
  · isplitl [Hf]; · iexact Hf
    isplitl [HO]; · iexact HO
    iapply (mayWait_tile c 0); iexact HL
  iintro ⟨Ht, Hw, Hz, HO⟩
  iapply (wp_load_of c (m := bM) (read_xb (i.xb c))) $$ Hb; iintro Hb
  iapply (wp_load_slot0 c) $$ Ht
  iintro %u %hu Ht
  rw [wp_ret]; imodintro
  rw [show k0_pay5 (i.xb c) u = i.lg c 0 from logit_of (i.xb c) hu]
  iapply Hk
  unfold pipe
  isplitr [Hat Hp]
  · isplitr; · iexact HL
    isplitl [Hf']; · iexact Hf'
    isplitl [Hw]; · iexact Hw
    isplitl [Ht]; · iapply tAt_any; iexact Ht
    isplitl [Hz]; · iexact Hz
    isplitl [Hb]; · iexact Hb
    isplitl [Hl]; · iexact Hl
    iexact HO
  isplitl [Hat] <;> iassumption

/-- After the walk: both slots and both shares of the weights are back. -/
def rest (c : Dev nD) : sProp 𝕄 :=
  iprop((pts c main_arg1 (qW 0) (i.w c) ∗ pts c main_arg1 (qW 1) (i.w c)) ∗ (tAny c (tSl 0) ∗ tAny c (tSl 1))
    ∗ (semVal ((c : Thread nD τ), .dma (tS 0)) 0 ∗ semVal ((c : Thread nD τ), .dma (tS 1)) 0)
    ∗ pts c cc0_scratch0 fullShare (i.xb c) ∗ pts c cc0_stg1_0 fullShare (i.l c))

/-- The last tile. -/
theorem wp_part9 {Q : (Σ' (v276 : FVec F S1024x1024 .f32) (v280 : FVec F S1024x1 .f32) (v294 : FVec F S1024x1 .f32), FVec F S1024x1024 .f32) → sProp (MT nD τ sig Unit (Elt F) ℕ UU ℕ)} :
    iprop(pipe i c 7 1 0 ∗ ((rest i c ∗ owing c (Or c)) -∗ Q ⟨i.lg c 7, i.s6 c, i.t6 c, exp (i.lg c 7)⟩))
      ⊢ wp frame (wpE (defs₀ (F := F)) 𝒱₀ (c : Thread nD τ) none) Set.univ
          (k0_part9 (F := F) xM hx wM hw lM hl oM ho bM hb tM ht sM hs rM hr cc0_scratch4 cc0_scratch5 cc0_scratch6 c (vy c) (vc c) io (i.lg c 5) (i.t4 c) (i.lg c 6) (i.s5 c) (k0_pay27 (F := F) (i.l c)) (k0_pay28 (vy c) (vc c))) Q := by
  rw [k0_part9_eq_skeleton]; unfold k0_part9_skel
  simp only [semSignalWord, semWaitWord, Prog.lift, Prog.bind_op, Prog.bind_ret, Prog.pure_eq_ret, wp_deviceId]
  unfold pipe rest
  iintro ⟨⟨#HL, Hf, Hw, Ha, Hz, Hb, Hl, HO⟩, Hk⟩
  iapply (wp_tile_wait c (src := srcM c 7) (d := tSl 1) rfl) $$ [Hf HO]
  · isplitl [Hf]; · iexact Hf
    isplitl [HO]; · iexact HO
    iapply (mayWait_tile c 1); iexact HL
  iintro ⟨Ht, Hw', Hz', HO⟩
  iapply (wp_load_of c (m := bM) (read_xb (i.xb c))) $$ Hb; iintro Hb
  iapply (wp_load_slot1 c) $$ Ht
  iintro %u %hu Ht
  iapply (wp_load_of c (m := lM) (read_l (i.l c))) $$ Hl; iintro Hl
  rw [wp_ret]; imodintro
  rw [show k0_pay29 (i.xb c) u = i.lg c 7 from logit_of (i.xb c) hu,
    show k0_pay32 (i.xb c) u = exp (i.lg c 7) from congrArg exp (logit_of (i.xb c) hu),
    show k0_pay30 (i.lg c 6) (i.s5 c) = i.s6 c from rfl,
    show k0_pay31 (vy c) (vc c) io (i.lg c 5) (i.t4 c) (i.lg c 6) (k0_pay27 (F := F) (i.l c)) (k0_pay28 (vy c) (vc c)) (i.l c) = i.t6 c from rfl]
  iapply Hk
  isplitr [HO]
  · isplitl [Hw Hw']; · isplitl [Hw] <;> iassumption
    isplitl [Ha Ht]
    · isplitl [Ha]; · iexact Ha
      iapply tAt_any; iexact Ht
    isplitl [Hz Hz']; · isplitl [Hz] <;> iassumption
    isplitl [Hb] <;> iassumption
  iexact HO

end Cert.Nll

end
-- ==== Proof.Exchange.lean ====
/-
  The exchange of the partial sums, the device's result, and with them one device's whole body.
-/
module

public import proofs.«01_k».proof.Proof.Tiles
public import Idealize.ShloMosaic.Lib.ValueLayout

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} {Q : α → sProp (MT nD τ sig Unit (Elt F) ℕ UU ℕ)}
variable {hx : (xM : Memref sig .tc .vmem S1024x2048 .f32).IsWhole} {hw : (wM : Memref sig .tc .hbm S2048x16384 .f32).IsWhole}
  {hl : (lM : Memref sig .tc .vmem S1024x1 .i32).IsWhole} {ho : (oM : Memref sig .tc .vmem S1024x1 .f32).IsWhole}
  {hb : (bM : Memref sig .tc .vmem S1024x2048 .bf16).IsWhole} {ht : (tM : Memref sig .tc .vmem S2x2048x1024 .f32).IsWhole}
  {hs : (sM : Memref sig .tc .vmem S1024x2 .f32).IsWhole} {hr : (rM : Memref sig .tc .vmem S3x1024x2 .f32).IsWhole}
variable (i : Ins F) (K : GSem nD τ sig → ℕ) (c : Dev nD)

/-! ## The send buffer -/

abbrev sR0 : Rect S1024x2 := Rect.unit (s := S1024x2) ![0, 0] S1024x1.size inb_S1024x2_S1024x1_0_0
abbrev sR1 : Rect S1024x2 := Rect.unit (s := S1024x2) ![0, 1] S1024x1.size inb_S1024x2_S1024x1_0_1

/-- The row of a message's entry, as an index of one column. -/
abbrev rowOf (j : S1024x2.Idx) : S1024x1.Idx := fun a => match a with | 0 => j 0 | 1 => ⟨0, Nat.one_pos⟩

theorem sR0_emb (j : S1024x2.Idx) (h : (j 1).val = 0) : ((sM : Memref sig .tc .vmem S1024x2 .f32).access sR0).emb (rowOf j) = j := by
  funext a; apply Fin.ext
  match a with
  | 0 => show 0 + 1 * (j 0).val = (j 0).val; omega
  | 1 => show 0 + 1 * 0 = (j 1).val; omega
theorem sR1_emb (j : S1024x2.Idx) (h : (j 1).val ≠ 0) : ((sM : Memref sig .tc .vmem S1024x2 .f32).access sR1).emb (rowOf j) = j := by
  have hlt : (j 1).val < 2 := (j 1).isLt
  funext a; apply Fin.ext
  match a with
  | 0 => show 0 + 1 * (j 0).val = (j 0).val; omega
  | 1 => show 1 + 1 * 0 = (j 1).val; omega

/-- The two columns stored one after the other are the message. -/
theorem snd_stored (g : FVec F S1024x2 .f32) (a b : FVec F S1024x1 .f32) :
    ((sM : Memref sig .tc .vmem S1024x2 .f32).access sR1).write (Elt F)
      (((sM : Memref sig .tc .vmem S1024x2 .f32).access sR0).write (Elt F) g a Finset.univ) b Finset.univ
      = fun j : S1024x2.Idx => if (j 1).val = 0 then a (rowOf j) else b (rowOf j) := by
  funext j
  by_cases h : (j 1).val = 0
  · rw [if_pos h, View.write_of_not_mem]
    · exact (congrArg _ (sR0_emb j h).symm).trans (View.write_emb_of_mem _ _ (Finset.mem_univ _))
    · intro hj
      obtain ⟨x, -, hx⟩ := Finset.mem_map.mp hj
      have h1 := congrArg (fun y : S1024x2.Idx => (y 1).val) hx
      have h2 : 1 + 1 * (x 1).val = (j 1).val := h1
      omega
  · rw [if_neg h]
    exact (congrArg _ (sR1_emb j h).symm).trans (View.write_emb_of_mem _ _ (Finset.mem_univ _))

theorem snd_stored_eq (g : FVec F S1024x2 .f32) :
    ((sM : Memref sig .tc .vmem S1024x2 .f32).access sR1).write (Elt F)
      (((sM : Memref sig .tc .vmem S1024x2 .f32).access sR0).write (Elt F) g (k0_pay35 (i.s6 c) (exp (i.lg c 7))) Finset.univ)
      (k0_pay36 (vy c) (vc c) io (i.lg c 7) (i.t6 c) (i.l c)) Finset.univ = i.snd c := by
  rw [snd_stored, show k0_pay35 (i.s6 c) (exp (i.lg c 7)) = i.s7 c from shapeCast_self _ _,
    show k0_pay36 (vy c) (vc c) io (i.lg c 7) (i.t6 c) (i.l c) = i.t7 c from shapeCast_self _ _]
  rfl

theorem sAt_eq (q : PosShare TreeShare) : (sAt i q c : sProp 𝕄) = pts c cc0_scratch2 q (i.snd c) := by
  unfold sAt; rw [View.set_whole]

/-! ## The messages -/

/-- What sending the message to peer `j` takes beside the peer's slot. -/
def toSend (j : Fin 3) (c : Dev nD) : sProp 𝕄 :=
  iprop(dutyTok ER (sndCell j c) 0 0 ∗ reached ER (sndCell j c) 0 ∗ dutyTok ER (rcvCell j (peer j c)) 0 0)

/-- The message is stored and the first copy of it sent. -/
theorem wp_part10 {Q : (Σ' (v298 : FVec F S1024x1 .f32) (v312 : FVec F S1024x1 .f32), BitVec 32) → sProp (MT nD τ sig Unit (Elt F) ℕ UU ℕ)} {g : FVec F S1024x2 .f32} {v19 : BitVec 32} :
    iprop(records i K ∗ pts c cc0_stg1_0 fullShare (i.l c) ∗ pts c cc0_scratch2 fullShare g ∗ owing c (Or c) ∗ toSend 0 c ∗ barPay 0 c
        ∗ ((pts c cc0_stg1_0 fullShare (i.l c) ∗ pts c cc0_scratch2 (fullShare : PosShare TreeShare).right (i.snd c)
            ∗ cred (tallyAt (sndCell 0 c) () N) ∗ owing c (O₁ c))
          -∗ Q ⟨i.s7 c, i.t7 c, Scalar.muli (vx c) 2#32⟩))
      ⊢ wp frame (wpE (defs₀ (F := F)) 𝒱₀ (c : Thread nD τ) none) Set.univ
          (k0_part10 (F := F) xM hx wM hw lM hl oM ho bM hb tM ht sM hs rM hr cc0_scratch4 cc0_scratch5 cc0_scratch6 c (vx c) (vy c) (vc c) v19 io (i.lg c 7) (i.s6 c) (i.t6 c) (exp (i.lg c 7))) Q := by
  rw [k0_part10_eq_skeleton]; unfold k0_part10_skel
  simp only [semSignalWord, semWaitWord, Prog.lift, Prog.bind_op, Prog.bind_ret, Prog.pure_eq_ret, wp_deviceId]
  unfold toSend barPay
  iintro ⟨#HR, Hl, Hs, HO, ⟨Ht1, #Hr1, Ht2⟩, ⟨Hd, #Hr2⟩, Hk⟩
  iapply (wp_load_of c (m := lM) (read_l (i.l c))) $$ Hl; iintro Hl
  iapply (wp_load_of c (m := sM) rfl) $$ Hs; iintro Hs
  iapply (wp_store 𝒱₀ (c : Thread nD τ) none Set.univ (m := sM) (r := sR0) (Mk := Finset.univ) (Finset.subset_univ _)) $$ Hs; iintro Hs
  iapply (wp_load_of c (m := sM) rfl) $$ Hs; iintro Hs
  iapply (wp_store 𝒱₀ (c : Thread nD τ) none Set.univ (m := sM) (r := sR1) (Mk := Finset.univ) (Finset.subset_univ _)) $$ Hs; iintro Hs
  rw [snd_stored_eq i c g]
  ihave Hs := (pointsTo_share (PosShare.mem_left_op_right fullShare)).1 $$ Hs
  icases Hs with ⟨Hs0, Hs⟩
  iapply (wp_message i K c 0 (dev4_eq c) (O₁ c) rfl rfl) $$ [HO Ht1 Ht2 Hd Hs0]
  · isplitr; · iexact HR
    isplitl [Hs0]; · rw [sAt_eq]; iexact Hs0
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  rw [show k0_pay33 (i.s6 c) (exp (i.lg c 7)) = i.s7 c from rfl,
    show k0_pay34 (vy c) (vc c) io (i.lg c 7) (i.t6 c) (i.l c) = i.t7 c from rfl]
  iapply Hk
  isplitl [Hl]; · iexact Hl
  isplitl [Hs]; · iexact Hs
  isplitl [Hc] <;> iassumption

/-- The other two copies are sent, and the first has left. -/
theorem wp_part11 {Q : PUnit → sProp (MT nD τ sig Unit (Elt F) ℕ UU ℕ)} {v5 v19 v20 v21 v22 v329 : BitVec 32} :
    iprop(records i K ∗ pts c cc0_scratch2 (fullShare : PosShare TreeShare).right (i.snd c) ∗ owing c (O₁ c)
        ∗ toSend 1 c ∗ barPay 1 c ∗ toSend 2 c ∗ barPay 2 c ∗ cred (tallyAt (sndCell 0 c) () N) ∗ atPos ER (sndCell 0 c) 0 ∅ 0
        ∗ ((cred (tallyAt (sndCell 1 c) () N) ∗ cred (tallyAt (sndCell 2 c) () N) ∗ owing c 0
            ∗ atPos ER (sndCell 0 c) (0 + 1) ∅ 0 ∗ sAt i (qS 0) c) -∗ Q ⟨⟩))
      ⊢ wp frame (wpE (defs₀ (F := F)) 𝒱₀ (c : Thread nD τ) none) Set.univ
          (k0_part11 (F := F) xM hx wM hw lM hl oM ho bM hb tM ht sM hs rM hr cc0_scratch4 cc0_scratch5 cc0_scratch6 c v5 v19 v20 v21 v22 v329) Q := by
  rw [k0_part11_eq_skeleton]; unfold k0_part11_skel
  simp only [semSignalWord, semWaitWord, Prog.lift, Prog.bind_op, Prog.bind_ret, Prog.pure_eq_ret, wp_deviceId]
  unfold toSend barPay
  iintro ⟨#HR, Hs, HO, ⟨Ht1, #Hr1, Ht1'⟩, ⟨Hd1, #Hr1'⟩, ⟨Ht2, #Hr2, Ht2'⟩, ⟨Hd2, #Hr2'⟩, Hc0, Hat, Hk⟩
  ihave Hs := (pointsTo_share (PosShare.mem_left_op_right (fullShare : PosShare TreeShare).right)).1 $$ Hs
  icases Hs with ⟨Hs1, Hs2⟩
  iapply (wp_message i K c 1 (dev5_eq c) (O₂ c) rfl rfl) $$ [HO Ht1 Ht1' Hd1 Hs1]
  · isplitr; · iexact HR
    isplitl [Hs1]; · rw [sAt_eq]; iexact Hs1
    isplitl [Hd1]; · iexact Hd1
    isplitl [HO]; · iexact HO
    isplitl [Ht1]; · iexact Ht1
    isplitr; · iexact Hr1
    isplitl [Ht1']; · iexact Ht1'
    iexact Hr1'
  iintro ⟨Hc1, HO⟩
  iapply (wp_message i K c 2 (dev6_eq c) 0 (zero_add _).symm rfl) $$ [HO Ht2 Ht2' Hd2 Hs2]
  · isplitr; · iexact HR
    isplitl [Hs2]; · rw [sAt_eq]; iexact Hs2
    isplitl [Hd2]; · iexact Hd2
    isplitl [HO]; · iexact HO
    isplitl [Ht2]; · iexact Ht2
    isplitr; · iexact Hr2
    isplitl [Ht2']; · iexact Ht2'
    iexact Hr2'
  iintro ⟨Hc2, HO⟩
  iapply (wp_sent i K c 0 rfl) $$ [Hc0 HO Hat]
  · isplitr; · iexact HR
    isplitl [Hc0]; · iexact Hc0
    isplitl [HO] <;> iassumption
  iintro ⟨HO, Hat, Hs0⟩
  rw [wp_ret]; imodintro
  iapply Hk
  isplitl [Hc1]; · iexact Hc1
  isplitl [Hc2]; · iexact Hc2
  isplitl [HO]; · iexact HO
  isplitl [Hat] <;> iassumption

/-- A send or receive cell waited for: before, and after. -/
def sent0 (j : Fin 3) (c : Dev nD) : sProp 𝕄 := iprop(cred (tallyAt (sndCell j c) () N) ∗ atPos ER (sndCell j c) 0 ∅ 0)
def sent1 (j : Fin 3) (c : Dev nD) : sProp 𝕄 := iprop(atPos ER (sndCell j c) (0 + 1) ∅ 0 ∗ sAt i (qS j) c)
def got0 (j : Fin 3) (c : Dev nD) : sProp 𝕄 := iprop(cred (tallyAt (rcvCell j c) () N) ∗ atPos ER (rcvCell j c) 0 ∅ 0)
def got1 (j : Fin 3) (c : Dev nD) : sProp 𝕄 := iprop(atPos ER (rcvCell j c) (0 + 1) ∅ 0 ∗ rAt j c (i.snd (peer j c)))

/-- All messages are there and all have left. -/
theorem wp_part12 {Q : PUnit → sProp (MT nD τ sig Unit (Elt F) ℕ UU ℕ)} {v2 v20 v21 v22 : BitVec 32} :
    iprop(records i K ∗ owing c 0 ∗ got0 0 c ∗ sent0 1 c ∗ got0 1 c ∗ sent0 2 c ∗ got0 2 c
        ∗ ((owing c 0 ∗ got1 i 0 c ∗ sent1 i 1 c ∗ got1 i 1 c ∗ sent1 i 2 c ∗ got1 i 2 c) -∗ Q ⟨⟩))
      ⊢ wp frame (wpE (defs₀ (F := F)) 𝒱₀ (c : Thread nD τ) none) Set.univ
          (k0_part12 (F := F) xM hx wM hw lM hl oM ho bM hb tM ht sM hs rM hr cc0_scratch4 cc0_scratch5 cc0_scratch6 v2 v20 v21 v22) Q := by
  rw [k0_part12_eq_skeleton]; unfold k0_part12_skel
  simp only [semSignalWord, semWaitWord, Prog.lift, Prog.bind_op, Prog.bind_ret, Prog.pure_eq_ret, wp_deviceId]
  unfold got0 sent0
  iintro ⟨#HR, HO, ⟨Hg0, Hg0'⟩, ⟨Hs1, Hs1'⟩, ⟨Hg1, Hg1'⟩, ⟨Hs2, Hs2'⟩, ⟨Hg2, Hg2'⟩, Hk⟩
  iapply (wp_received i K c 0 (d := rSl 0) rfl) $$ [Hg0 HO Hg0']
  · isplitr; · iexact HR
    isplitl [Hg0]; · iexact Hg0
    isplitl [HO] <;> iassumption
  iintro ⟨HO, Hg0⟩
  iapply (wp_sent i K c 1 (d := sM) rfl) $$ [Hs1 HO Hs1']
  · isplitr; · iexact HR
    isplitl [Hs1]; · iexact Hs1
    isplitl [HO] <;> iassumption
  iintro ⟨HO, Hs1⟩
  iapply (wp_received i K c 1 (d := rSl 1) rfl) $$ [Hg1 HO Hg1']
  · isplitr; · iexact HR
    isplitl [Hg1]; · iexact Hg1
    isplitl [HO] <;> iassumption
  iintro ⟨HO, Hg1⟩
  iapply (wp_sent i K c 2 (d := sM) rfl) $$ [Hs2 HO Hs2']
  · isplitr; · iexact HR
    isplitl [Hs2]; · iexact Hs2
    isplitl [HO] <;> iassumption
  iintro ⟨HO, Hs2⟩
  iapply (wp_received i K c 2 (d := rSl 2) rfl) $$ [Hg2 HO Hg2']
  · isplitr; · iexact HR
    isplitl [Hg2]; · iexact Hg2
    isplitl [HO] <;> iassumption
  iintro ⟨HO, Hg2⟩
  rw [wp_ret]; imodintro
  iapply Hk
  unfold got1 sent1
  isplitl [HO]; · iexact HO
  isplitl [Hg0]; · iexact Hg0
  isplitl [Hs1]; · iexact Hs1
  isplitl [Hg1]; · iexact Hg1
  isplitl [Hs2]; · iexact Hs2
  iexact Hg2

/-! ## The columns received -/

theorem shapeCasts_col : S1x1024x2.ShapeCasts S1024x2 := by decide

/-- A column of a slot that holds `v` is that column of `v`. -/
theorem read_col {k b : ℕ} (hk : ∀ a, (![k, 0, 0] : Fin 3 → ℕ) a + S1x1024x2.size a ≤ S3x1024x2.size a)
    (hkb : ∀ a, (![k, 0, b] : Fin 3 → ℕ) a + S1x1024x1.size a ≤ S3x1024x2.size a) (hb2 : b < 2)
    (f : FVec F S3x1024x2 .f32) {v : FVec F S1024x2 .f32}
    (hf : ((rM.slice (Rect.unit (s := S3x1024x2) ![k, 0, 0] S1x1024x2.size hk) (fun _ => rfl)).squeeze S1024x2 squeezes_S1x1024x2_S1024x2).view.read (Elt F) f = v) :
    (rM : Memref sig .tc .vmem S3x1024x2 .f32).view.readAt (Elt F) (Rect.unit (s := S3x1024x2) ![k, 0, b] S1x1024x1.size hkb).toLoadRect f
      = fun j : S1x1024x1.Idx => v (fun a => match a with | 0 => j 1 | 1 => ⟨b, hb2⟩) := by
  subst hf
  funext j
  have e : (fun a => match a with | 0 => j 1 | 1 => ⟨b, hb2⟩ : S1024x2.Idx) = ValueIdx.ix2 (j 1) (⟨b, hb2⟩ : Fin 2) := by
    funext a; match a with | 0 => rfl | 1 => rfl
  rw [e]
  refine Eq.trans ?_ (show shapeCast S1024x2 ((rM : Memref sig .tc .vmem S3x1024x2 .f32).view.readAt (Elt F) (Rect.unit (s := S3x1024x2) ![k, 0, 0] S1x1024x2.size hk).toLoadRect f) shapeCasts_col (ValueIdx.ix2 (j 1) (⟨b, hb2⟩ : Fin 2)) = _ from rfl)
  refine Eq.trans ?_ (ValueIdx.shapeCast_1ab_ab_apply _ _ _ _).symm
  refine congrArg (fun y => (rM : Memref sig .tc .vmem S3x1024x2 .f32).view.read (Elt F) f y) ?_
  funext a; apply Fin.ext
  have h0 : (j 0).val < 1 := (j 0).isLt
  have h2 : (j 2).val < 1 := (j 2).isLt
  match a with
  | 0 => show k + 1 * (j 0).val = k + 1 * 0; omega
  | 1 => show 0 + 1 * (j 1).val = 0 + 1 * (j 1).val; rfl
  | 2 => show b + 1 * (j 2).val = 0 + 1 * b; omega

theorem wp_load_col00 {v : FVec F S1024x2 .f32}
    {hl : (rM : Memref sig .tc .vmem S3x1024x2 .f32).view.LoadsAt (Rect.unit (s := S3x1024x2) ![0, 0, 0] S1x1024x1.size inb_S3x1024x2_S1x1024x1_0_0_0).toLoadRect}
    {k : (S1x1024x1.Idx → Elt F .f32) → Prog (TpuEff nD τ sig (Elt F) Λ₀ .tc) α} :
    (rAt 0 c v : sProp 𝕄)
      ⊢ iprop((rAt 0 c v -∗ wp frame (wpE (defs₀ (F := F)) 𝒱₀ (c : Thread nD τ) none) Set.univ
            (k (fun j : S1x1024x1.Idx => v (fun a => match a with | 0 => j 1 | 1 => (0 : Fin 2)))) Q)
        -∗ wp frame (wpE (defs₀ (F := F)) 𝒱₀ (c : Thread nD τ) none) Set.univ
            (.op (.load rM (Rect.unit (s := S3x1024x2) ![0, 0, 0] S1x1024x1.size inb_S3x1024x2_S1x1024x1_0_0_0).toLoadRect hl) k) Q) := by
  unfold rAt
  iintro ⟨%f, %hf, H⟩ Hk
  iapply (wp_load 𝒱₀ (c : Thread nD τ) none Set.univ (m := rM) (S := (rSl 0).view.set)
    ((Memref.setOn_subset_setOn_of_within rM (Rect.unit (s := S3x1024x2) ![0, 0, 0] S1x1024x2.size inb_S3x1024x2_S1x1024x2_0_0_0) _ (by decide)).trans
      (Finset.subset_of_eq ((View.set_slice _ _).symm.trans (Memref.set_view_squeeze (rM.slice (Rect.unit (s := S3x1024x2) ![0, 0, 0] S1x1024x2.size inb_S3x1024x2_S1x1024x2_0_0_0) (fun _ => rfl)) squeezes_S1x1024x2_S1024x2).symm)))) $$ H
  iintro H
  rw [read_col inb_S3x1024x2_S1x1024x2_0_0_0 inb_S3x1024x2_S1x1024x1_0_0_0 (by decide) f hf]
  iapply Hk
  iexists f
  isplitr; · ipureintro; exact hf
  iexact H

theorem wp_load_col01 {v : FVec F S1024x2 .f32}
    {hl : (rM : Memref sig .tc .vmem S3x1024x2 .f32).view.LoadsAt (Rect.unit (s := S3x1024x2) ![0, 0, 1] S1x1024x1.size inb_S3x1024x2_S1x1024x1_0_0_1).toLoadRect}
    {k : (S1x1024x1.Idx → Elt F .f32) → Prog (TpuEff nD τ sig (Elt F) Λ₀ .tc) α} :
    (rAt 0 c v : sProp 𝕄)
      ⊢ iprop((rAt 0 c v -∗ wp frame (wpE (defs₀ (F := F)) 𝒱₀ (c : Thread nD τ) none) Set.univ
            (k (fun j : S1x1024x1.Idx => v (fun a => match a with | 0 => j 1 | 1 => (1 : Fin 2)))) Q)
        -∗ wp frame (wpE (defs₀ (F := F)) 𝒱₀ (c : Thread nD τ) none) Set.univ
            (.op (.load rM (Rect.unit (s := S3x1024x2) ![0, 0, 1] S1x1024x1.size inb_S3x1024x2_S1x1024x1_0_0_1).toLoadRect hl) k) Q) := by
  unfold rAt
  iintro ⟨%f, %hf, H⟩ Hk
  iapply (wp_load 𝒱₀ (c : Thread nD τ) none Set.univ (m := rM) (S := (rSl 0).view.set)
    ((Memref.setOn_subset_setOn_of_within rM (Rect.unit (s := S3x1024x2) ![0, 0, 0] S1x1024x2.size inb_S3x1024x2_S1x1024x2_0_0_0) _ (by decide)).trans
      (Finset.subset_of_eq ((View.set_slice _ _).symm.trans (Memref.set_view_squeeze (rM.slice (Rect.unit (s := S3x1024x2) ![0, 0, 0] S1x1024x2.size inb_S3x1024x2_S1x1024x2_0_0_0) (fun _ => rfl)) squeezes_S1x1024x2_S1024x2).symm)))) $$ H
  iintro H
  rw [read_col inb_S3x1024x2_S1x1024x2_0_0_0 inb_S3x1024x2_S1x1024x1_0_0_1 (by decide) f hf]
  iapply Hk
  iexists f
  isplitr; · ipureintro; exact hf
  iexact H

theorem wp_load_col10 {v : FVec F S1024x2 .f32}
    {hl : (rM : Memref sig .tc .vmem S3x1024x2 .f32).view.LoadsAt (Rect.unit (s := S3x1024x2) ![1, 0, 0] S1x1024x1.size inb_S3x1024x2_S1x1024x1_1_0_0).toLoadRect}
    {k : (S1x1024x1.Idx → Elt F .f32) → Prog (TpuEff nD τ sig (Elt F) Λ₀ .tc) α} :
    (rAt 1 c v : sProp 𝕄)
      ⊢ iprop((rAt 1 c v -∗ wp frame (wpE (defs₀ (F := F)) 𝒱₀ (c : Thread nD τ) none) Set.univ
            (k (fun j : S1x1024x1.Idx => v (fun a => match a with | 0 => j 1 | 1 => (0 : Fin 2)))) Q)
        -∗ wp frame (wpE (defs₀ (F := F)) 𝒱₀ (c : Thread nD τ) none) Set.univ
            (.op (.load rM (Rect.unit (s := S3x1024x2) ![1, 0, 0] S1x1024x1.size inb_S3x1024x2_S1x1024x1_1_0_0).toLoadRect hl) k) Q) := by
  unfold rAt
  iintro ⟨%f, %hf, H⟩ Hk
  iapply (wp_load 𝒱₀ (c : Thread nD τ) none Set.univ (m := rM) (S := (rSl 1).view.set)
    ((Memref.setOn_subset_setOn_of_within rM (Rect.unit (s := S3x1024x2) ![1, 0, 0] S1x1024x2.size inb_S3x1024x2_S1x1024x2_1_0_0) _ (by decide)).trans
      (Finset.subset_of_eq ((View.set_slice _ _).symm.trans (Memref.set_view_squeeze (rM.slice (Rect.unit (s := S3x1024x2) ![1, 0, 0] S1x1024x2.size inb_S3x1024x2_S1x1024x2_1_0_0) (fun _ => rfl)) squeezes_S1x1024x2_S1024x2).symm)))) $$ H
  iintro H
  rw [read_col inb_S3x1024x2_S1x1024x2_1_0_0 inb_S3x1024x2_S1x1024x1_1_0_0 (by decide) f hf]
  iapply Hk
  iexists f
  isplitr; · ipureintro; exact hf
  iexact H

theorem wp_load_col11 {v : FVec F S1024x2 .f32}
    {hl : (rM : Memref sig .tc .vmem S3x1024x2 .f32).view.LoadsAt (Rect.unit (s := S3x1024x2) ![1, 0, 1] S1x1024x1.size inb_S3x1024x2_S1x1024x1_1_0_1).toLoadRect}
    {k : (S1x1024x1.Idx → Elt F .f32) → Prog (TpuEff nD τ sig (Elt F) Λ₀ .tc) α} :
    (rAt 1 c v : sProp 𝕄)
      ⊢ iprop((rAt 1 c v -∗ wp frame (wpE (defs₀ (F := F)) 𝒱₀ (c : Thread nD τ) none) Set.univ
            (k (fun j : S1x1024x1.Idx => v (fun a => match a with | 0 => j 1 | 1 => (1 : Fin 2)))) Q)
        -∗ wp frame (wpE (defs₀ (F := F)) 𝒱₀ (c : Thread nD τ) none) Set.univ
            (.op (.load rM (Rect.unit (s := S3x1024x2) ![1, 0, 1] S1x1024x1.size inb_S3x1024x2_S1x1024x1_1_0_1).toLoadRect hl) k) Q) := by
  unfold rAt
  iintro ⟨%f, %hf, H⟩ Hk
  iapply (wp_load 𝒱₀ (c : Thread nD τ) none Set.univ (m := rM) (S := (rSl 1).view.set)
    ((Memref.setOn_subset_setOn_of_within rM (Rect.unit (s := S3x1024x2) ![1, 0, 0] S1x1024x2.size inb_S3x1024x2_S1x1024x2_1_0_0) _ (by decide)).trans
      (Finset.subset_of_eq ((View.set_slice _ _).symm.trans (Memref.set_view_squeeze (rM.slice (Rect.unit (s := S3x1024x2) ![1, 0, 0] S1x1024x2.size inb_S3x1024x2_S1x1024x2_1_0_0) (fun _ => rfl)) squeezes_S1x1024x2_S1024x2).symm)))) $$ H
  iintro H
  rw [read_col inb_S3x1024x2_S1x1024x2_1_0_0 inb_S3x1024x2_S1x1024x1_1_0_1 (by decide) f hf]
  iapply Hk
  iexists f
  isplitr; · ipureintro; exact hf
  iexact H

theorem wp_load_col20 {v : FVec F S1024x2 .f32}
    {hl : (rM : Memref sig .tc .vmem S3x1024x2 .f32).view.LoadsAt (Rect.unit (s := S3x1024x2) ![2, 0, 0] S1x1024x1.size inb_S3x1024x2_S1x1024x1_2_0_0).toLoadRect}
    {k : (S1x1024x1.Idx → Elt F .f32) → Prog (TpuEff nD τ sig (Elt F) Λ₀ .tc) α} :
    (rAt 2 c v : sProp 𝕄)
      ⊢ iprop((rAt 2 c v -∗ wp frame (wpE (defs₀ (F := F)) 𝒱₀ (c : Thread nD τ) none) Set.univ
            (k (fun j : S1x1024x1.Idx => v (fun a => match a with | 0 => j 1 | 1 => (0 : Fin 2)))) Q)
        -∗ wp frame (wpE (defs₀ (F := F)) 𝒱₀ (c : Thread nD τ) none) Set.univ
            (.op (.load rM (Rect.unit (s := S3x1024x2) ![2, 0, 0] S1x1024x1.size inb_S3x1024x2_S1x1024x1_2_0_0).toLoadRect hl) k) Q) := by
  unfold rAt
  iintro ⟨%f, %hf, H⟩ Hk
  iapply (wp_load 𝒱₀ (c : Thread nD τ) none Set.univ (m := rM) (S := (rSl 2).view.set)
    ((Memref.setOn_subset_setOn_of_within rM (Rect.unit (s := S3x1024x2) ![2, 0, 0] S1x1024x2.size inb_S3x1024x2_S1x1024x2_2_0_0) _ (by decide)).trans
      (Finset.subset_of_eq ((View.set_slice _ _).symm.trans (Memref.set_view_squeeze (rM.slice (Rect.unit (s := S3x1024x2) ![2, 0, 0] S1x1024x2.size inb_S3x1024x2_S1x1024x2_2_0_0) (fun _ => rfl)) squeezes_S1x1024x2_S1024x2).symm)))) $$ H
  iintro H
  rw [read_col inb_S3x1024x2_S1x1024x2_2_0_0 inb_S3x1024x2_S1x1024x1_2_0_0 (by decide) f hf]
  iapply Hk
  iexists f
  isplitr; · ipureintro; exact hf
  iexact H

theorem wp_load_col21 {v : FVec F S1024x2 .f32}
    {hl : (rM : Memref sig .tc .vmem S3x1024x2 .f32).view.LoadsAt (Rect.unit (s := S3x1024x2) ![2, 0, 1] S1x1024x1.size inb_S3x1024x2_S1x1024x1_2_0_1).toLoadRect}
    {k : (S1x1024x1.Idx → Elt F .f32) → Prog (TpuEff nD τ sig (Elt F) Λ₀ .tc) α} :
    (rAt 2 c v : sProp 𝕄)
      ⊢ iprop((rAt 2 c v -∗ wp frame (wpE (defs₀ (F := F)) 𝒱₀ (c : Thread nD τ) none) Set.univ
            (k (fun j : S1x1024x1.Idx => v (fun a => match a with | 0 => j 1 | 1 => (1 : Fin 2)))) Q)
        -∗ wp frame (wpE (defs₀ (F := F)) 𝒱₀ (c : Thread nD τ) none) Set.univ
            (.op (.load rM (Rect.unit (s := S3x1024x2) ![2, 0, 1] S1x1024x1.size inb_S3x1024x2_S1x1024x1_2_0_1).toLoadRect hl) k) Q) := by
  unfold rAt
  iintro ⟨%f, %hf, H⟩ Hk
  iapply (wp_load 𝒱₀ (c : Thread nD τ) none Set.univ (m := rM) (S := (rSl 2).view.set)
    ((Memref.setOn_subset_setOn_of_within rM (Rect.unit (s := S3x1024x2) ![2, 0, 0] S1x1024x2.size inb_S3x1024x2_S1x1024x2_2_0_0) _ (by decide)).trans
      (Finset.subset_of_eq ((View.set_slice _ _).symm.trans (Memref.set_view_squeeze (rM.slice (Rect.unit (s := S3x1024x2) ![2, 0, 0] S1x1024x2.size inb_S3x1024x2_S1x1024x2_2_0_0) (fun _ => rfl)) squeezes_S1x1024x2_S1024x2).symm)))) $$ H
  iintro H
  rw [read_col inb_S3x1024x2_S1x1024x2_2_0_0 inb_S3x1024x2_S1x1024x1_2_0_1 (by decide) f hf]
  iapply Hk
  iexists f
  isplitr; · ipureintro; exact hf
  iexact H

end Cert.Nll

end
-- ==== Proof.Body.lean ====
/-
  One device's whole body: its parts one after the other, then the loads of what was received and the store of the result.
-/
module

public import proofs.«01_k».proof.Proof.Exchange

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} {Q : α → sProp (MT nD τ sig Unit (Elt F) ℕ UU ℕ)}
variable {hx : (xM : Memref sig .tc .vmem S1024x2048 .f32).IsWhole} {hw : (wM : Memref sig .tc .hbm S2048x16384 .f32).IsWhole}
  {hl : (lM : Memref sig .tc .vmem S1024x1 .i32).IsWhole} {ho : (oM : Memref sig .tc .vmem S1024x1 .f32).IsWhole}
  {hb : (bM : Memref sig .tc .vmem S1024x2048 .bf16).IsWhole} {ht : (tM : Memref sig .tc .vmem S2x2048x1024 .f32).IsWhole}
  {hs : (sM : Memref sig .tc .vmem S1024x2 .f32).IsWhole} {hr : (rM : Memref sig .tc .vmem S3x1024x2 .f32).IsWhole}
variable (i : Ins F) (K : GSem nD τ sig → ℕ) (c : Dev nD)

/-- What the talk with peer `j` takes: the tokens and the credit, the two cells' positions, and that both are open. -/
def link (j : Fin 3) (c : Dev nD) : sProp 𝕄 :=
  iprop(toSend j c ∗ dutyTok ER (barCell (peer j c)) 0 j ∗ got0 j c ∗ atPos ER (sndCell j c) 0 ∅ 0 ∗ reached ER (rcvCell j c) 0 ∗ rAny j c)

/-- What the body's buffers and semaphores are before it runs. -/
def before (c : Dev nD) : sProp 𝕄 :=
  iprop((pts c cc0_stg0_0 fullShare (i.x c) ∗ pts c cc0_stg1_0 fullShare (i.l c) ∗ (∃ f, pts c cc0_stg2_0 fullShare f))
    ∗ (pts c main_arg1 (qW 0) (i.w c) ∗ pts c main_arg1 (qW 1) (i.w c))
    ∗ ((∃ f, pts c cc0_scratch0 fullShare f) ∗ (tAny c (tSl 0) ∗ tAny c (tSl 1)) ∗ (∃ f, pts c cc0_scratch2 fullShare f))
    ∗ (semVal ((c : Thread nD τ), .dma (tS 0)) 0 ∗ semVal ((c : Thread nD τ), .dma (tS 1)) 0))

/-- And after it. -/
def after (c : Dev nD) : sProp 𝕄 :=
  iprop((pts c cc0_stg0_0 fullShare (i.x c) ∗ pts c cc0_stg2_0 fullShare (i.out c)) ∗ rest i c
    ∗ (sent1 i 0 c ∗ sent1 i 1 c ∗ sent1 i 2 c) ∗ (got1 i 0 c ∗ got1 i 1 c ∗ got1 i 2 c))

theorem write_out (f v : FVec F S1024x1 .f32) : ((oM : Memref sig .tc .vmem S1024x1 .f32).access
    (Rect.unit (s := S1024x1) ![0, 0] S1024x1.size inb_S1024x1_S1024x1_0_0)).write (Elt F) f v Finset.univ = v :=
  Memref.write_access_unit_zero_univ (Elt F) cc0_stg2_0 off2 _ f v

/-- The body: from its buffers and its part in the talk to its result. -/
theorem wp_body {Q : PUnit → sProp (MT nD τ sig Unit (Elt F) ℕ UU ℕ)} :
    iprop(records i K ∗ levAts L lv ∗ owing c (O₀ c) ∗ before i c ∗ (link 0 c ∗ link 1 c ∗ link 2 c)
        ∗ cred (tallyAt (barCell c) () 3) ∗ atPos ER (barCell c) 0 ∅ 0
        ∗ ((owing c 0 ∗ after i c ∗ atPos ER (barCell c) (0 + 1) ∅ 0) -∗ Q ⟨⟩))
      ⊢ wp frame (wpE (defs₀ (F := F)) 𝒱₀ (c : Thread nD τ) none) Set.univ (cc0_body (F := F) xM hx wM hw lM hl oM ho bM hb tM ht sM hs rM hr cc0_scratch4 cc0_scratch5 cc0_scratch6) Q := by
  rw [cc0_body_eq_skeleton]; unfold cc0_body_skel link before
  iintro ⟨#HR, #HL, HO, ⟨⟨Hx, Hl, ⟨%fo, Ho⟩⟩, ⟨Hw0, Hw1⟩, ⟨⟨%fb, Hb⟩, ⟨Ha0, Ha1⟩, ⟨%fs, Hs⟩⟩, ⟨Hz0, Hz1⟩⟩,
    ⟨⟨Hm0, Ht0, Hg0, Hq0, #Hr0, Hd0⟩, ⟨Hm1, Ht1, Hg1, Hq1, #Hr1, Hd1⟩, ⟨Hm2, Ht2, Hg2, Hq2, #Hr2, Hd2⟩⟩, Hc, Hat, Hk⟩
  rw [wp_bind]
  iapply (wp_part1 i K c (g := fb))
  isplitr; · iexact HR
  isplitl [Hx]; · iexact Hx
  isplitl [Hw0]; · iexact Hw0
  isplitl [Ha0]; · iexact Ha0
  isplitl [Hz0]; · iexact Hz0
  isplitl [Hb]; · iexact Hb
  isplitl [HO]; · iexact HO
  isplitl [Ht0]; · iexact Ht0
  isplitl [Hd0]; · iexact Hd0
  isplitr; · iexact Hr0
  iintro ⟨Hx, Hf, Hb, HO⟩
  dsimp only
  rw [wp_bind]
  iapply (wp_part2 i K c)
  isplitr; · iexact HR
  isplitr; · iexact HL
  isplitl [Hf Hw1 Ha1 Hz1 Hb Hl]
  · isplitl [Hf]; · iexact Hf
    isplitl [Hw1]; · iexact Hw1
    isplitl [Ha1]; · iexact Ha1
    isplitl [Hz1]; · iexact Hz1
    isplitl [Hb] <;> iassumption
  isplitl [HO Ht1 Ht2 Hd1 Hd2]
  · isplitl [HO]; · iexact HO
    isplitl [Ht1]; · iexact Ht1
    isplitl [Ht2]; · iexact Ht2
    isplitl [Hd1] <;> iassumption
  isplitr; · iexact Hr1
  isplitr; · iexact Hr2
  isplitl [Hc]; · iexact Hc
  isplitl [Hat]; · iexact Hat
  iintro ⟨Hp, Hat, Hb0, Hb1, Hb2⟩
  dsimp only
  rw [wp_bind]
  iapply (wp_part3 i c)
  isplitl [Hp]; · iexact Hp
  iintro Hp
  dsimp only
  rw [wp_bind]
  iapply (wp_part4 i c)
  isplitl [Hp]; · iexact Hp
  iintro Hp
  dsimp only
  rw [wp_bind]
  iapply (wp_part5 i c)
  isplitl [Hp]; · iexact Hp
  iintro Hp
  dsimp only
  rw [wp_bind]
  iapply (wp_part6 i c)
  isplitl [Hp]; · iexact Hp
  iintro Hp
  dsimp only
  rw [wp_bind]
  iapply (wp_part7 i c)
  isplitl [Hp]; · iexact Hp
  iintro Hp
  dsimp only
  rw [wp_bind]
  iapply (wp_part8 i c)
  isplitl [Hp]; · iexact Hp
  iintro Hp
  dsimp only
  rw [wp_bind]
  iapply (wp_part9 i c)
  isplitl [Hp]; · iexact Hp
  iintro ⟨Hrest, HO⟩
  dsimp only
  unfold rest
  icases Hrest with ⟨Hw, Ha, Hz, Hb, Hl⟩
  rw [wp_bind]
  iapply (wp_part10 i K c (g := fs))
  isplitr; · iexact HR
  isplitl [Hl]; · iexact Hl
  isplitl [Hs]; · iexact Hs
  isplitl [HO]; · iexact HO
  isplitl [Hm0]; · iexact Hm0
  isplitl [Hb0]; · iexact Hb0
  iintro ⟨Hl, Hs, Hc0, HO⟩
  dsimp only
  rw [wp_bind]
  iapply (wp_part11 i K c)
  isplitr; · iexact HR
  isplitl [Hs]; · iexact Hs
  isplitl [HO]; · iexact HO
  isplitl [Hm1]; · iexact Hm1
  isplitl [Hb1]; · iexact Hb1
  isplitl [Hm2]; · iexact Hm2
  isplitl [Hb2]; · iexact Hb2
  isplitl [Hc0]; · iexact Hc0
  isplitl [Hq0]; · iexact Hq0
  iintro ⟨Hc1, Hc2, HO, Hq0, Hs0⟩
  rw [wp_bind]
  iapply (wp_part12 i K c)
  isplitr; · iexact HR
  isplitl [HO]; · iexact HO
  isplitl [Hg0]; · iexact Hg0
  isplitl [Hc1 Hq1]; · unfold sent0; isplitl [Hc1] <;> iassumption
  isplitl [Hg1]; · iexact Hg1
  isplitl [Hc2 Hq2]; · unfold sent0; isplitl [Hc2] <;> iassumption
  isplitl [Hg2]; · iexact Hg2
  unfold got1
  iintro ⟨HO, ⟨Hp0, Hg0⟩, Hs1, ⟨Hp1, Hg1⟩, Hs2, ⟨Hp2, Hg2⟩⟩
  simp only [semSignalWord, semWaitWord, Prog.lift, Prog.bind_op, Prog.bind_ret, Prog.pure_eq_ret, wp_deviceId]
  iapply (wp_load_col00 c) $$ Hg0; iintro Hg0
  iapply (wp_load_col10 c) $$ Hg1; iintro Hg1
  iapply (wp_load_col20 c) $$ Hg2; iintro Hg2
  iapply (wp_load_col01 c) $$ Hg0; iintro Hg0
  iapply (wp_load_col11 c) $$ Hg1; iintro Hg1
  iapply (wp_load_col21 c) $$ Hg2; iintro Hg2
  iapply (wp_load_of c (m := oM) rfl) $$ Ho; iintro Ho
  iapply (wp_store 𝒱₀ (c : Thread nD τ) none Set.univ (m := oM) (r := Rect.unit (s := S1024x1) ![0, 0] S1024x1.size inb_S1024x1_S1024x1_0_0)
    (Mk := Finset.univ) (Finset.subset_univ _)) $$ Ho; iintro Ho
  rw [write_out, wp_ret]; imodintro
  iapply Hk
  isplitl [HO]; · iexact HO
  isplitr [Hat]; rotate_left; · iexact Hat
  unfold after rest got1
  isplitl [Hx Ho]
  · isplitl [Hx]; · iexact Hx
    iexact Ho
  isplitl [Hw Ha Hz Hb Hl]
  · isplitl [Hw]; · iexact Hw
    isplitl [Ha]; · iexact Ha
    isplitl [Hz]; · iexact Hz
    isplitl [Hb] <;> iassumption
  isplitl [Hq0 Hs0 Hs1 Hs2]
  · isplitl [Hq0 Hs0]; · unfold sent1; isplitl [Hq0] <;> iassumption
    isplitl [Hs1] <;> iassumption
  isplitl [Hp0 Hg0]; · isplitl [Hp0] <;> iassumption
  isplitl [Hp1 Hg1]; · isplitl [Hp1] <;> iassumption
  isplitl [Hp2] <;> iassumption

end Cert.Nll

end
-- ==== Proof.Slots.lean ====
/-
  The body addresses the tile buffer and the receive buffer by their slots, and lends the send buffer and the weights
  by shares; the region holds each of these buffers whole. Here a buffer is taken apart and put together again.
-/
module

public import proofs.«01_k».proof.Proof.Body

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The slots' element sets -/

/-- A rectangle that is one whole plane of a rank-3 array holds the indices of that plane. -/
theorem mem_plane {a b c p : ℕ} {inb : ∀ k, (![p, 0, 0] : Fin 3 → ℕ) k + (![1, b, c] : Fin 3 → ℕ) k ≤ (⟨3, ![a, b, c]⟩ : Shape).size k}
    (i : (⟨3, ![a, b, c]⟩ : Shape).Idx) : i ∈ (Rect.unit (s := ⟨3, ![a, b, c]⟩) ![p, 0, 0] ![1, b, c] inb).set ↔ (i 0).val = p := by
  refine Rect.mem_set_unit.trans ?_
  constructor
  · intro h; have h0 := h 0; simp only [Matrix.cons_val_zero] at h0; omega
  · intro h k
    have hk := (i k).isLt
    fin_cases k
    · simp only [Fin.zero_eta, Matrix.cons_val_zero]; omega
    · exact ⟨Nat.zero_le _, by simpa using hk⟩
    · exact ⟨Nat.zero_le _, by simpa using hk⟩

theorem tile_set0 (i : S2x2048x1024.Idx) : i ∈ (tSl 0).view.set ↔ (i 0).val = 0 := by
  rw [show (tSl 0).view.set = (Rect.unit (s := S2x2048x1024) ![0, 0, 0] S1x2048x1024.size inb_S2x2048x1024_S1x2048x1024_0_0_0).set from
    (Memref.set_view_squeeze (tM.slice (Rect.unit (s := S2x2048x1024) ![0, 0, 0] _ _) (fun _ => rfl)) squeezes_S1x2048x1024_S2048x1024).trans (View.set_slice_whole _ _)]
  exact mem_plane i
theorem tile_set1 (i : S2x2048x1024.Idx) : i ∈ (tSl 1).view.set ↔ (i 0).val = 1 := by
  rw [show (tSl 1).view.set = (Rect.unit (s := S2x2048x1024) ![1, 0, 0] S1x2048x1024.size inb_S2x2048x1024_S1x2048x1024_1_0_0).set from
    (Memref.set_view_squeeze (tM.slice (Rect.unit (s := S2x2048x1024) ![1, 0, 0] _ _) (fun _ => rfl)) squeezes_S1x2048x1024_S2048x1024).trans (View.set_slice_whole _ _)]
  exact mem_plane i
theorem recv_set0 (i : S3x1024x2.Idx) : i ∈ (rSl 0).view.set ↔ (i 0).val = 0 := by
  rw [show (rSl 0).view.set = (Rect.unit (s := S3x1024x2) ![0, 0, 0] S1x1024x2.size inb_S3x1024x2_S1x1024x2_0_0_0).set from
    (Memref.set_view_squeeze (rM.slice (Rect.unit (s := S3x1024x2) ![0, 0, 0] _ _) (fun _ => rfl)) squeezes_S1x1024x2_S1024x2).trans (View.set_slice_whole _ _)]
  exact mem_plane i
theorem recv_set1 (i : S3x1024x2.Idx) : i ∈ (rSl 1).view.set ↔ (i 0).val = 1 := by
  rw [show (rSl 1).view.set = (Rect.unit (s := S3x1024x2) ![1, 0, 0] S1x1024x2.size inb_S3x1024x2_S1x1024x2_1_0_0).set from
    (Memref.set_view_squeeze (rM.slice (Rect.unit (s := S3x1024x2) ![1, 0, 0] _ _) (fun _ => rfl)) squeezes_S1x1024x2_S1024x2).trans (View.set_slice_whole _ _)]
  exact mem_plane i
theorem recv_set2 (i : S3x1024x2.Idx) : i ∈ (rSl 2).view.set ↔ (i 0).val = 2 := by
  rw [show (rSl 2).view.set = (Rect.unit (s := S3x1024x2) ![2, 0, 0] S1x1024x2.size inb_S3x1024x2_S1x1024x2_2_0_0).set from
    (Memref.set_view_squeeze (rM.slice (Rect.unit (s := S3x1024x2) ![2, 0, 0] _ _) (fun _ => rfl)) squeezes_S1x1024x2_S1024x2).trans (View.set_slice_whole _ _)]
  exact mem_plane i

/-- The second tile slot is all of the tile buffer but the first. -/
theorem tile_rest : (Finset.univ : Finset S2x2048x1024.Idx) \ (tSl 0).view.set = (tSl 1).view.set := by
  refine Finset.ext fun (i : S2x2048x1024.Idx) => ?_
  rw [Finset.mem_sdiff, tile_set0, tile_set1]
  have : (i 0).val < 2 := (i 0).isLt
  simp only [Finset.mem_univ, true_and]; omega
/-- The last two receive slots are all of the receive buffer but the first. -/
theorem recv_sub : (rSl 1).view.set ⊆ (Finset.univ : Finset S3x1024x2.Idx) \ (rSl 0).view.set := by
  intro (i : S3x1024x2.Idx) h
  rw [recv_set1] at h; rw [Finset.mem_sdiff, recv_set0]
  exact ⟨Finset.mem_univ _, by omega⟩
theorem recv_rest : ((Finset.univ : Finset S3x1024x2.Idx) \ (rSl 0).view.set) \ (rSl 1).view.set = (rSl 2).view.set := by
  refine Finset.ext fun (i : S3x1024x2.Idx) => ?_
  rw [Finset.mem_sdiff, Finset.mem_sdiff, recv_set0, recv_set1, recv_set2]
  have : (i 0).val < 3 := (i 0).isLt
  simp only [Finset.mem_univ, true_and]; omega

/-! ## Apart and together -/

variable (c : Dev nD)

theorem tile_apart : iprop(∃ f, pts (F := F) c cc0_scratch1 fullShare f) ⊢ iprop(tAny c (tSl 0) ∗ tAny c (tSl 1)) := by
  unfold tAny
  iintro ⟨%f, H⟩
  ihave H' := (pointsTo_split_subset (Finset.subset_univ (tSl 0).view.set)).1 $$ H
  icases H' with ⟨Ha, Hb⟩
  isplitl [Ha]; · iexists f; iexact Ha
  iexists f; rw [← tile_rest]; iexact Hb
theorem tile_together : iprop(tAny c (tSl 0) ∗ tAny c (tSl 1)) ⊢ iprop(∃ f, pts (F := F) c cc0_scratch1 fullShare f) := by
  unfold tAny
  rw [← tile_rest]
  iintro ⟨⟨%f, Ha⟩, ⟨%g, Hb⟩⟩
  iexists _
  iapply (pointsTo_join_subset (Finset.subset_univ (tSl 0).view.set))
  isplitl [Ha]; · iexact Ha
  iexact Hb

theorem recv_apart : iprop(∃ f, pts (F := F) c cc0_scratch3 fullShare f) ⊢ iprop(rAny 0 c ∗ rAny 1 c ∗ rAny 2 c) := by
  unfold rAny
  iintro ⟨%f, H⟩
  ihave H' := (pointsTo_split_subset (Finset.subset_univ (rSl 0).view.set)).1 $$ H
  icases H' with ⟨Ha, Hb⟩
  ihave H' := (pointsTo_split_subset recv_sub).1 $$ Hb
  icases H' with ⟨Hb, Hc⟩
  isplitl [Ha]; · iexists f; iexact Ha
  isplitl [Hb]; · iexists f; iexact Hb
  iexists f; rw [← recv_rest]; iexact Hc
theorem recv_together : iprop(rAny 0 c ∗ rAny 1 c ∗ rAny 2 c) ⊢ iprop(∃ f, pts (F := F) c cc0_scratch3 fullShare f) := by
  unfold rAny
  rw [← recv_rest]
  iintro ⟨⟨%f, Ha⟩, ⟨%g, Hb⟩, ⟨%h, Hc⟩⟩
  iexists _
  iapply (pointsTo_join_subset (Finset.subset_univ (rSl 0).view.set))
  isplitl [Ha]; · iexact Ha
  iapply (pointsTo_join_subset recv_sub)
  isplitl [Hb]; · iexact Hb
  iexact Hc
theorem rAny_of (k : Fin 3) (v : FVec F S1024x2 .f32) : rAt k c v ⊢ rAny k c := by
  unfold rAt rAny
  iintro ⟨%f, -, H⟩; iexists f; iexact H

/-- The weights' two shares are the whole. -/
theorem w_apart (f : Buf (Elt F) ((c : Thread nD τ).loc main_arg1)) :
    pts c main_arg1 fullShare f ⊢ iprop(pts c main_arg1 (qW 0) f ∗ pts c main_arg1 (qW 1) f) :=
  (pointsTo_share (PosShare.mem_left_op_right fullShare)).1
theorem w_together (f : Buf (Elt F) ((c : Thread nD τ).loc main_arg1)) :
    iprop(pts c main_arg1 (qW 0) f ∗ pts c main_arg1 (qW 1) f) ⊢ pts c main_arg1 fullShare f :=
  (pointsTo_share (PosShare.mem_left_op_right fullShare)).2
/-- The send buffer's three shares are the whole. -/
theorem send_together (f : Buf (Elt F) ((c : Thread nD τ).loc cc0_scratch2)) :
    iprop(pts c cc0_scratch2 (qS 0) f ∗ pts c cc0_scratch2 (qS 1) f ∗ pts c cc0_scratch2 (qS 2) f) ⊢ pts c cc0_scratch2 fullShare f := by
  iintro ⟨Ha, Hb, Hc⟩
  iapply (pointsTo_share (PosShare.mem_left_op_right fullShare)).2
  isplitl [Ha]; · iexact Ha
  iapply (pointsTo_share (PosShare.mem_left_op_right fullShare.right)).2
  isplitl [Hb]; · iexact Hb
  iexact Hc

end Cert.Nll

end
-- ==== Proof.Whole.lean ====
/-
  The body from the buffers held whole and the counters at zero, to the buffers held whole and the counters at zero.

  The counters of the messages' cells come with the call, at zero, and leave with it at zero. Before the body each is put
  into its cell, whose two parties can then use it; after the body, each cell having had its one round, the counter is taken
  out again. The barrier's counter is in its cell from the start of the program.
-/
module

public import proofs.«01_k».proof.Proof.Slots

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (i : Ins F) (K : GSem nD τ sig → ℕ) (j : Fin 3) (c : Dev nD)

/-- The rights of device `c` that concern its `j`-th peer: to tell it, to lend out the message, to fill its receive slot. -/
def dues : sProp 𝕄 :=
  iprop(dutyTok ER (barCell (peer j c)) 0 j ∗ dutyTok ER (sndCell j c) 0 0 ∗ dutyTok ER (rcvCell j (peer j c)) 0 0)
/-- The same, with the rights to start the two cells of its own and the units it is to receive, before the cells are started. -/
def dormant : sProp 𝕄 :=
  iprop(dues j c ∗ (openTok ER (sndCell j c) ∗ openTok ER (rcvCell j c)) ∗ cred (tallyAt (rcvCell j c) () N))
/-- And when they are started. -/
def ready : sProp 𝕄 :=
  iprop(toSend j c ∗ dutyTok ER (barCell (peer j c)) 0 j ∗ got0 j c ∗ atPos ER (sndCell j c) 0 ∅ 0 ∗ reached ER (rcvCell j c) 0)
/-- The two counters. -/
def counters : sProp 𝕄 := iprop(semVal (sndCell j c) 0 ∗ semVal (rcvCell j c) 0)

theorem start_cells : iprop(records i K ∗ dormant j c ∗ counters j c) ⊢ (|={Set.univ}=> ready j c : sProp 𝕄) := by
  unfold dormant dues counters ready toSend got0
  iintro ⟨#HR, ⟨⟨Hb, Hs, Hr⟩, ⟨Hos, Hor⟩, Hc⟩, Hvs, Hvr⟩
  imod (Rounds.cell_open ER (talk i) (g := sndCell j c) (Set.mem_univ (K (sndCell j c)))) $$ [Hos Hvs] with ⟨Has, Hrs⟩
  · isplitr; · iapply (records_inv i K (snd_mem j c)); iexact HR
    isplitl [Hos] <;> iassumption
  imod (Rounds.cell_open ER (talk i) (g := rcvCell j c) (Set.mem_univ (K (rcvCell j c)))) $$ [Hor Hvr] with ⟨Har, Hrr⟩
  · isplitr; · iapply (records_inv i K (rcv_mem j c)); iexact HR
    isplitl [Hor] <;> iassumption
  imodintro
  isplitl [Hs Hrs Hr]
  · isplitl [Hs]; · iexact Hs
    isplitl [Hrs] <;> iassumption
  isplitl [Hb]; · iexact Hb
  isplitl [Hc Har]; · isplitl [Hc] <;> iassumption
  isplitl [Has] <;> iassumption

/-- A cell that has had its round gives its counter back, at zero. -/
theorem finish {g : GSem nD τ sig} (hg : g ∈ (barCells ∪ scCells : Finset (GSem nD τ sig))) :
    iprop(records i K ∗ atPos ER g (0 + 1) ∅ 0) ⊢ (|={Set.univ}=> semVal g 0 : sProp 𝕄) := by
  iintro ⟨#HR, Ha⟩
  iapply (Rounds.cell_close ER (talk i) (Set.mem_univ (K g)) id (duties_later i g))
  isplitr; · iapply (records_inv i K hg); iexact HR
  iexact Ha

/-! ## What the call takes and gives -/

/-- The kernel's own buffers, at any contents. -/
def scratch : sProp 𝕄 :=
  iprop((∃ f, pts c cc0_scratch0 fullShare f) ∗ (∃ f, pts c cc0_scratch1 fullShare f) ∗ (∃ f, pts c cc0_scratch2 fullShare f) ∗ (∃ f, pts c cc0_scratch3 fullShare f))
/-- The two counters of the tiles' copies. -/
def tileCounters : sProp 𝕄 := iprop(semVal ((c : Thread nD τ), SemLoc.dma (tS 0)) 0 ∗ semVal ((c : Thread nD τ), SemLoc.dma (tS 1)) 0)
/-- All counters that come with the call. -/
def allCounters : sProp 𝕄 := iprop(tileCounters c ∗ counters 0 c ∗ counters 1 c ∗ counters 2 c)
/-- The barrier's part: a position in its cell and three units to receive. -/
def barPart : sProp 𝕄 := iprop(cred (tallyAt (barCell c) () 3) ∗ atPos ER (barCell c) 0 ∅ 0)
/-- What device `c` brings to the call from the start of the program, -/
def brought : sProp 𝕄 := iprop((∃ K, records i K ∗ dormant 0 c ∗ dormant 1 c ∗ dormant 2 c) ∗ barPart c)
/-- and with the counters put into their cells. -/
def opened : sProp 𝕄 :=
  iprop((∃ K, records i K ∗ ready 0 c ∗ ready 1 c ∗ ready 2 c) ∗ barPart c ∗ tileCounters c ∗ levAts L lv)

theorem open_all : iprop(brought i c ∗ allCounters c ∗ levAts L lv) ⊢ (|={Set.univ}=> opened i c : sProp 𝕄) := by
  unfold brought allCounters opened
  iintro ⟨⟨⟨%K, #HR, H0, H1, H2⟩, Hb⟩, ⟨Ht, Hc0, Hc1, Hc2⟩, HL⟩
  imod (start_cells i K 0 c) $$ [H0 Hc0] with H0
  · isplitr; · iexact HR
    isplitl [H0] <;> iassumption
  imod (start_cells i K 1 c) $$ [H1 Hc1] with H1
  · isplitr; · iexact HR
    isplitl [H1] <;> iassumption
  imod (start_cells i K 2 c) $$ [H2 Hc2] with H2
  · isplitr; · iexact HR
    isplitl [H2] <;> iassumption
  imodintro
  isplitl [H0 H1 H2]
  · iexists K
    isplitr; · iexact HR
    isplitl [H0]; · iexact H0
    isplitl [H1] <;> iassumption
  isplitl [Hb]; · iexact Hb
  isplitl [Ht] <;> iassumption

/-- The staging buffers and the weights before the call, -/
def staged : sProp 𝕄 :=
  iprop(pts c main_arg1 fullShare (i.w c) ∗ pts c cc0_stg0_0 fullShare (i.x c) ∗ pts c cc0_stg1_0 fullShare (i.l c) ∗ (∃ f, pts c cc0_stg2_0 fullShare f))
/-- and after it: the result is there. -/
def answered : sProp 𝕄 :=
  iprop(pts c main_arg1 fullShare (i.w c) ∗ pts c cc0_stg0_0 fullShare (i.x c) ∗ pts c cc0_stg1_0 fullShare (i.l c) ∗ pts c cc0_stg2_0 fullShare (i.out c))

/-- A peer's part, with the receive slot that it may fill. -/
theorem link_of : iprop(ready j c ∗ rAny j c) ⊢ (link j c : sProp 𝕄) := by
  unfold ready link
  iintro ⟨⟨Ha, Hb, Hc, Hd, He⟩, Hr⟩
  isplitl [Ha]; · iexact Ha
  isplitl [Hb]; · iexact Hb
  isplitl [Hc]; · iexact Hc
  isplitl [Hd]; · iexact Hd
  isplitl [He] <;> iassumption

/-- After the body a peer's two cells give the counters back, and its slot and share of the message are in hand. -/
theorem finish_peer : iprop(records i K ∗ sent1 i j c ∗ got1 i j c)
    ⊢ (|={Set.univ}=> iprop(counters j c ∗ pts c cc0_scratch2 (qS j) (i.snd c) ∗ rAny j c) : sProp 𝕄) := by
  unfold sent1 got1 counters
  rw [sAt_eq]
  iintro ⟨#HR, ⟨Ha, Hs⟩, ⟨Hb, Hr⟩⟩
  imod (finish i K (snd_mem j c)) $$ [Ha] with Ha
  · isplitr; · iexact HR
    iexact Ha
  imod (finish i K (rcv_mem j c)) $$ [Hb] with Hb
  · isplitr; · iexact HR
    iexact Hb
  imodintro
  isplitl [Ha Hb]; · isplitl [Ha] <;> iassumption
  isplitl [Hs]; · iexact Hs
  iapply (rAny_of c j _); iexact Hr

theorem wp_call {Q : PUnit → sProp (MT nD τ sig Unit (Elt F) ℕ UU ℕ)} {hx hw hl ho hb ht hs hr} :
    iprop(owing c (O₀ c) ∗ opened i c ∗ scratch c ∗ staged i c
        ∗ ((owing c 0 ∗ (semVal (barCell c) 0 ∗ allCounters c) ∗ scratch c ∗ answered i c) -∗ Q ⟨⟩))
      ⊢ wp frame (wpE (defs₀ (F := F)) 𝒱₀ (c : Thread nD τ) none) Set.univ
        (cc0_body (F := F) xM hx wM hw lM hl oM ho bM hb tM ht sM hs rM hr cc0_scratch4 cc0_scratch5 cc0_scratch6) Q := by
  refine BIBase.Entails.trans ?_ (wp_fupd (Fr := frame) (wpE := wpE (defs₀ (F := F)) 𝒱₀ (c : Thread nD τ) none) (E := Set.univ) _ Q)
  unfold opened scratch staged barPart tileCounters
  iintro ⟨HO, ⟨⟨%K, #HR, H0, H1, H2⟩, ⟨Hcb, Hab⟩, Ht, #HL⟩, ⟨Hb, Htl, Hs, Hr⟩, ⟨Hw, Hx, Hl, Ho⟩, Hk⟩
  ihave Hw := (w_apart c (i.w c)) $$ Hw
  ihave Htl := (tile_apart c) $$ Htl
  ihave Hr := (recv_apart c) $$ Hr
  icases Hr with ⟨Hr0, Hr1, Hr2⟩
  iapply (wp_body i K c)
  isplitr; · iexact HR
  isplitr; · iexact HL
  isplitl [HO]; · iexact HO
  isplitl [Hx Hl Ho Hw Hb Htl Hs Ht]
  · unfold before
    isplitl [Hx Hl Ho]
    · isplitl [Hx]; · iexact Hx
      isplitl [Hl] <;> iassumption
    isplitl [Hw]; · iexact Hw
    isplitl [Hb Htl Hs]
    · isplitl [Hb]; · iexact Hb
      isplitl [Htl] <;> iassumption
    iexact Ht
  isplitl [H0 Hr0 H1 Hr1 H2 Hr2]
  · isplitl [H0 Hr0]; · iapply (link_of 0 c); isplitl [H0] <;> iassumption
    isplitl [H1 Hr1]; · iapply (link_of 1 c); isplitl [H1] <;> iassumption
    iapply (link_of 2 c); isplitl [H2] <;> iassumption
  isplitl [Hcb]; · iexact Hcb
  isplitl [Hab]; · iexact Hab
  unfold after rest
  iintro ⟨HO, ⟨⟨Hx, Ho⟩, ⟨Hw, Htl, Ht, Hb, Hl⟩, ⟨Hs0, Hs1, Hs2⟩, ⟨Hg0, Hg1, Hg2⟩⟩, Hab⟩
  imod (finish i K (bar_mem c)) $$ [Hab] with Hab
  · isplitr; · iexact HR
    iexact Hab
  imod (finish_peer i K 0 c) $$ [Hs0 Hg0] with ⟨Hc0, Hs0, Hr0⟩
  · isplitr; · iexact HR
    isplitl [Hs0] <;> iassumption
  imod (finish_peer i K 1 c) $$ [Hs1 Hg1] with ⟨Hc1, Hs1, Hr1⟩
  · isplitr; · iexact HR
    isplitl [Hs1] <;> iassumption
  imod (finish_peer i K 2 c) $$ [Hs2 Hg2] with ⟨Hc2, Hs2, Hr2⟩
  · isplitr; · iexact HR
    isplitl [Hs2] <;> iassumption
  imodintro
  iapply Hk
  isplitl [HO]; · iexact HO
  isplitl [Hab Ht Hc0 Hc1 Hc2]
  · isplitl [Hab]; · iexact Hab
    unfold allCounters tileCounters
    isplitl [Ht]; · iexact Ht
    isplitl [Hc0]; · iexact Hc0
    isplitl [Hc1] <;> iassumption
  isplitl [Hb Htl Hs0 Hs1 Hs2 Hr0 Hr1 Hr2]
  · isplitl [Hb]; · iexists _; iexact Hb
    isplitl [Htl]; · iapply (tile_together c); iexact Htl
    isplitl [Hs0 Hs1 Hs2]
    · iexists _
      iapply (send_together c (i.snd c))
      isplitl [Hs0]; · iexact Hs0
      isplitl [Hs1] <;> iassumption
    iapply (recv_together c)
    isplitl [Hr0]; · iexact Hr0
    isplitl [Hr1] <;> iassumption
  unfold answered
  isplitl [Hw]; · iapply (w_together c (i.w c)); iexact Hw
  isplitl [Hx]; · iexact Hx
  isplitl [Hl] <;> iassumption

end Cert.Nll

end
-- ==== Proof.Region.lean ====
/-
  The pallas_call as a region of the program: the buffers it is entered and left with, and its obligations.
-/
module

public import proofs.«01_k».proof.Proof.Whole
public import proofs.«01_k».proof.Proof.Gen.KernelIdeal.Launch
public import proofs.«01_k».proof.Proof.Gen.KernelIdeal.Points

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A vector of labels as the column the program reshapes it to. -/
abbrev labelColumn (l : IVec S1024 32) : IVec S1024x1 32 := shapeCast S1024x1 l shapeCasts_S1024_S1024x1

variable (m : (ℓ : Loc nD τ sig) → Buf (Elt F) ℓ) (c : Dev nD)

/-- What each device finds in its arguments. -/
def insOf : Ins F where
  x c := m ((c : Thread nD τ).loc main_arg0)
  w c := m ((c : Thread nD τ).loc main_arg1)
  l c := labelColumn (m ((c : Thread nD τ).loc main_arg2))

/-! ## The buffers between the program's lines -/

abbrev at₀ : Valuation τ sig (Elt F) := fun b => m (c, b)
/-- after the labels are reshaped, -/
def at₁ : Valuation τ sig (Elt F) := StableHlo.after hostOps0 (at₀ m c)
/-- after the call, -/
def at₂ : Valuation τ sig (Elt F) := Function.update (at₁ m c) (Proc.devRef .tc main_v2) ((insOf m).out c)
/-- and after its result is reshaped. -/
def at₃ : Valuation τ sig (Elt F) := StableHlo.after hostOps1 (at₂ m c)

theorem at₁_ne {b : Ref sig .tc} (h : b ≠ main_v1) : at₁ m c (Proc.devRef .tc b) = m ((c : Thread nD τ).loc b) := by
  unfold at₁ hostOps0
  rw [StableHlo.after_cons, StableHlo.after_nil, StableHlo.reshape_result_ne (h := h)]
theorem at₁_labels : at₁ m c (Proc.devRef .tc main_v1) = (insOf m).l c := by
  unfold at₁ hostOps0
  rw [StableHlo.after_cons, StableHlo.after_nil, StableHlo.reshape_result]
  rfl
theorem at₂_ne {b : Ref sig .tc} (h : b ≠ main_v2) : at₂ m c (Proc.devRef .tc b) = at₁ m c (Proc.devRef .tc b) := by
  unfold at₂; exact Function.update_of_ne (StableHlo.devRef_ne_of_ne h) _ _
theorem at₂_out : at₂ m c (Proc.devRef .tc main_v2) = (insOf m).out c := by
  unfold at₂; exact Function.update_self _ _ _
theorem at₃_ne {b : Ref sig .tc} (h : b ≠ main_v3) : at₃ m c (Proc.devRef .tc b) = at₂ m c (Proc.devRef .tc b) := by
  unfold at₃ hostOps1
  rw [StableHlo.after_cons, StableHlo.after_nil, StableHlo.reshape_result_ne (h := h)]
theorem at₃_out : at₃ m c (Proc.devRef .tc main_v3) = shapeCast S1024 ((insOf m).out c) shapeCasts_S1024x1_S1024 := by
  unfold at₃ hostOps1
  rw [StableHlo.after_cons, StableHlo.after_nil, StableHlo.reshape_result, at₂_out]
  rfl

/-! ## The buffers outside the call -/

/-- The buffers of the program's own lines. -/
def bufs : Finset (DevRef τ sig) := (StableHlo.tcRefs τ sig).filter fun b => ¬ b.isScoped
/-- Those the call's windows do not stage, -/
def others : Finset (DevRef τ sig) := bufs \ Pipeline.arrRefs (τ := τ) spec0
/-- and the one of them that the body reads for itself. -/
def weights : Finset (DevRef τ sig) := {Proc.devRef .tc main_arg1}
theorem staged_sub : Pipeline.arrRefs (τ := τ) spec0 ⊆ bufs := by decide
theorem weights_sub : weights ⊆ others := by decide

theorem weights_held (W : Valuation τ sig (Elt F)) :
    (StableHlo.held (c : Thread nD τ) weights W : sProp 𝕄) = pts c main_arg1 fullShare (W (Proc.devRef .tc main_arg1)) := by
  unfold StableHlo.held weights; rw [BI.bigSep_singleton]

/-! ## The proof data -/

/-- The counters that come with the call. -/
def ownSem : Fin 8 → SemLoc sig
  | 0 => .dma (tS 0) | 1 => .dma (tS 1) | 2 => .dma (sS 0) | 3 => .dma (rS 0)
  | 4 => .dma (sS 1) | 5 => .dma (rS 1) | 6 => .dma (sS 2) | 7 => .dma (rS 2)

theorem ownSems_eq : (Pipeline.ownSems0 ownSem c : sProp 𝕄) ⊣⊢ allCounters c := by
  rw [show (Pipeline.ownSems0 ownSem c : sProp 𝕄) = iprop(semVal ((c : Thread nD τ), ownSem 0) 0 ∗ semVal ((c : Thread nD τ), ownSem 1) 0
      ∗ semVal ((c : Thread nD τ), ownSem 2) 0 ∗ semVal ((c : Thread nD τ), ownSem 3) 0 ∗ semVal ((c : Thread nD τ), ownSem 4) 0
      ∗ semVal ((c : Thread nD τ), ownSem 5) 0 ∗ semVal ((c : Thread nD τ), ownSem 6) 0 ∗ semVal ((c : Thread nD τ), ownSem 7) 0)
    from bigSep_univ_eq_bigSepL [0, 1, 2, 3, 4, 5, 6, 7] (by decide) (by decide) _]
  unfold allCounters tileCounters counters
  constructor
  · iintro ⟨H0, H1, H2, H3, H4, H5, H6, H7⟩
    isplitl [H0 H1]
    · isplitl [H0]; · iexact H0
      iexact H1
    isplitl [H2 H3]
    · isplitl [H2]; · iexact H2
      iexact H3
    isplitl [H4 H5]
    · isplitl [H4]; · iexact H4
      iexact H5
    isplitl [H6]; · iexact H6
    iexact H7
  · iintro ⟨⟨H0, H1⟩, ⟨H2, H3⟩, ⟨H4, H5⟩, ⟨H6, H7⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- What the body holds besides the staging buffers, before it runs -/
def entry : sProp 𝕄 :=
  iprop(opened (insOf m) c ∗ scratch c ∗ pts c main_arg1 fullShare ((insOf m).w c) ∗ ∃ r, prngReg c r)
/-- and after. -/
def exit : sProp 𝕄 :=
  iprop((semVal (barCell c) 0 ∗ allCounters c) ∗ scratch c ∗ pts c main_arg1 fullShare ((insOf m).w c) ∗ ∃ r, prngReg c r)

def dat : Pipeline.Dat τ (Elt F) Unit ℕ UU ℕ cfg0 c where
  A w := at₁ m c (Proc.devRef .tc (Pipeline.arrRef spec0 w))
  after := fun
    | 0 => fun _ => (insOf m).x c
    | 1 => fun _ => (insOf m).l c
    | 2 => fun _ => (insOf m).out c
    | ⟨_ + 3, h⟩ => absurd h (Nat.not_lt.2 (Nat.le_add_left _ _))
  Φ t := if t.val = 0 then entry m c else exit m c
  q _ := fullShare
  owed t := if t.val = 0 then O₀ c else 0

theorem inv_before : (dat m c).Φ t0_0.castSucc = entry m c := by dsimp only [dat]; exact if_pos rfl
theorem inv_after : (dat m c).Φ t0_0.succ = exit m c := by dsimp only [dat]; exact if_neg (Nat.succ_ne_zero _)
theorem owed_before : (dat m c).owed t0_0.castSucc = O₀ c := by dsimp only [dat]; exact if_pos rfl
theorem owed_after : (dat m c).owed t0_0.succ = 0 := by dsimp only [dat]; exact if_neg (Nat.succ_ne_zero _)

/-- A window's block is its whole array. -/
theorem blk_x (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f
theorem blk_l (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from funext fun a => by fin_cases a <;> decide)
    (fun a => by fin_cases a <;> decide) f
theorem blk_o (f : Buf (Elt F) ((c : Thread nD τ).loc main_v2)) : (win0_2.blk t0_0).view.read (Elt F) f = f :=
  Memref.read_access_unit_zero (Elt F) main_v2
    (show (fun a => (win0_2.index t0_0) a * main_v2.ty.shape.size a) = fun _ => 0 from funext fun a => by fin_cases a <;> decide)
    (fun a => by fin_cases a <;> decide) f

theorem before_x (d) : (dat m c).before 0 t0_0 d = (insOf m).x c := by
  unfold Pipeline.Dat.before; rw [if_pos (fetch0_0 t0_0)]
  unfold Pipeline.Dat.fetched Pipeline.Dat.blockOf
  dsimp only [dat]
  exact (blk_x c _).trans (at₁_ne m c (b := main_arg0) (by decide))
theorem before_l (d) : (dat m c).before 1 t0_0 d = (insOf m).l c := by
  unfold Pipeline.Dat.before; rw [if_pos (fetch0_1 t0_0)]
  unfold Pipeline.Dat.fetched Pipeline.Dat.blockOf
  dsimp only [dat]
  exact (blk_l c _).trans (at₁_labels m c)

/-- The arrays at the end. -/
theorem end_out : (dat m c).arrAt 2 cfg0.N = (insOf m).out c := by
  have hw : ((cfg0.win 2).blk t0_0).view.read (Elt F) ((dat m c).arrAt 2 cfg0.N) = (dat m c).flushed 2 t0_0 := by
    rw [show cfg0.N = t0_0.val + 1 from rfl, (dat m c).arrAt_succ (2 : Fin 3) t0_0, flush0_2, if_pos rfl]
    exact View.read_write_univ _ _
  have hf : (dat m c).flushed 2 t0_0 = (insOf m).out c := by
    show (cfg0.win 2).cut _ ((dat m c).after 2 t0_0) = _
    exact funext fun _ => rfl
  exact (blk_o c _).symm.trans (hw.trans hf)

/-! ## The obligation -/

theorem owesAt_of (t : Fin (cfg0.N + 1)) {O : CellTallies nD τ sig Unit} (h : (dat m c).owed t = O) :
    owing c O ⊢ ((dat m c).owesAt () t : sProp 𝕄) := by
  unfold owing Pipeline.Dat.owesAt Pipeline.owesWithin Pipeline.Dat.bound
  rw [h]
  iintro ⟨%W, HO⟩
  iexists W; isplitr; · ipureintro; exact fun _ _ => Or.inl trivial
  iexact HO
theorem owing_of (t : Fin (cfg0.N + 1)) {O : CellTallies nD τ sig Unit} (h : (dat m c).owed t = O) :
    ((dat m c).owesAt () t : sProp 𝕄) ⊢ owing c O := by
  unfold owing Pipeline.Dat.owesAt Pipeline.owesWithin
  rw [h]
  iintro ⟨%W, -, HO⟩; iexists W; iexact HO

/-- A staging buffer owned whole. -/
theorem stage_x (X) : (owns (c : Thread nD τ) ((cfg0.win 0).stage (cfg0.slots t0_0 0)) fullShare X : sProp 𝕄) = pts c cc0_stg0_0 fullShare X :=
  owns_whole (c : Thread nD τ) cc0_stg0_0 fullShare X
theorem stage_l (X) : (owns (c : Thread nD τ) ((cfg0.win 1).stage (cfg0.slots t0_0 1)) fullShare X : sProp 𝕄) = pts c cc0_stg1_0 fullShare X :=
  owns_whole (c : Thread nD τ) cc0_stg1_0 fullShare X
theorem stage_o (X) : (owns (c : Thread nD τ) ((cfg0.win 2).stage (cfg0.slots t0_0 2)) fullShare X : sProp 𝕄) = pts c cc0_stg2_0 fullShare X :=
  owns_whole (c : Thread nD τ) cc0_stg2_0 fullShare X

theorem obligation : Pipeline.BodyObligation (dat m c) (defs₀ (F := F)) 𝒱₀ () Set.univ := fun t => by
  obtain rfl := fin_N0 t
  rw [bigSep_W0, bigSep_W0, inv_before, inv_after]
  unfold entry exit
  iintro ⟨⟨Hop, Hsc, Hw, Hp⟩, HO, ⟨%d0, Hx⟩, ⟨%d1, Hl⟩, ⟨%d2, Ho⟩⟩
  ihave Hx := (Entails.of_eq ((stage_x c _).trans (congrArg _ (before_x m c d0)))) $$ Hx
  ihave Hl := (Entails.of_eq ((stage_l c _).trans (congrArg _ (before_l m c d1)))) $$ Hl
  ihave Ho := (Entails.of_eq (stage_o c _)) $$ Ho
  iapply (wp_call (insOf m) c)
  isplitl [HO]; · iapply (owing_of m c _ (owed_before m c)); iexact HO
  isplitl [Hop]; · iexact Hop
  isplitl [Hsc]; · iexact Hsc
  isplitl [Hw Hx Hl Ho]
  · unfold staged
    isplitl [Hw]; · iexact Hw
    isplitl [Hx]; · iexact Hx
    isplitl [Hl]; · iexact Hl
    iexists _; iexact Ho
  unfold answered
  iintro ⟨HO, Hc, Hsc, Hw, Hx, Hl, Ho⟩
  isplitl [Hc Hsc Hw Hp]
  · isplitl [Hc]; · iexact Hc
    isplitl [Hsc]; · iexact Hsc
    isplitl [Hw] <;> iassumption
  isplitl [HO]; · iapply (owesAt_of m c _ (owed_after m c)); iexact HO
  isplitl [Hx]; · iapply (Entails.of_eq (stage_x c _).symm); iexact Hx
  isplitl [Hl]; · iapply (Entails.of_eq (stage_l c _).symm); iexact Hl
  iapply (Entails.of_eq (stage_o c _).symm); iexact Ho

end Cert.Nll

end
-- ==== Proof.Segments.lean ====
/-
  The program's three parts chained: the labels are reshaped, the call runs, its result is reshaped.
-/
module

public import proofs.«01_k».proof.Proof.Region

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

abbrev adm : (p : Fin 1) → (pcfgs (F := F) p).Adm := fun p => (cfgs p).toPCfg_adm
abbrev pdats : (p : Fin 1) → (c : Dev nD) → Pipeline.Dat τ (Elt F) Unit ℕ UU ℕ (Pipeline.pin (pcfgs (F := F)) adm p) c
  | 0 => dat m

local notation "ℍ" => Pipeline.HostSeg (Name := ℕ) (U := UU) (pcfgs (F := F)) defs₀ 𝒱₀ L lv
local notation "ℝ" => Pipeline.RegionSeg (pcfgs (F := F)) adm (pdats m) () defs₀ 𝒱₀ L lv

/-! ## The call -/

theorem scratch_eq : (Pipeline.scopedRest (Pipeline.pin (pcfgs (F := F)) adm 0).spec c : sProp 𝕄) = scratch c := scopedRest0_eq c

theorem call_entry : iprop(Pipeline.scopedRest (Pipeline.pin (pcfgs (F := F)) adm 0).spec c ∗ (∃ r, prngReg c r)
      ∗ StableHlo.held (c.tc : Thread nD τ) weights (at₁ m c) ∗ opened (insOf m) c)
    ⊢ (pdats m 0 c).Φ 0 := by
  rw [show (pdats m 0 c).Φ 0 = entry m c from inv_before m c, weights_held, at₁_ne m c (b := main_arg1) (by decide)]
  unfold entry
  iintro ⟨Hs, Hp, Hw, Ho⟩
  isplitl [Ho]; · iexact Ho
  isplitl [Hs]; · iapply (Entails.of_eq (scratch_eq c)); iexact Hs
  isplitl [Hw]; · iexact Hw
  iexact Hp

theorem call_exit : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) weights (at₂ m c) ∗ Pipeline.ownSems0 ownSem c ∗ semVal (barCell c) 0) := by
  rw [show (pdats m 0 c).Φ (Fin.last (Pipeline.pin (pcfgs (F := F)) adm 0).N) = exit m c from inv_after m c, weights_held,
    at₂_ne m c (b := main_arg1) (by decide), at₁_ne m c (b := main_arg1) (by decide)]
  unfold exit
  iintro ⟨⟨Hb, Hc⟩, Hs, Hw, Hp⟩
  isplitl [Hs]; · iapply (Entails.of_eq (scratch_eq c).symm); iexact Hs
  isplitl [Hp]; · iexact Hp
  isplitl [Hw]; · iexact Hw
  isplitl [Hc]; · iapply (ownSems_eq c).2; iexact Hc
  iexact Hb

theorem call_owed (t : Fin ((Pipeline.pin (pcfgs (F := F)) adm 0).N + 1)) (g : GSem nD τ sig) (u : Unit)
    (h : 0 < (pdats m 0 c).owed t g u) : u ∈ L g ∧ (0 : ℕ) < lv g u := by
  have e : (pdats m 0 c).owed t = if t.val = 0 then O₀ c else 0 := rfl
  rw [e] at h
  split at h
  · obtain ⟨k, rfl | rfl⟩ := O₀_pos h
    · exact ⟨by rw [L_tc]; exact Finset.mem_singleton_self _, by unfold lv lvOf; rw [role_rcv]; exact Nat.zero_lt_two⟩
    · exact ⟨by rw [L_tc]; exact Finset.mem_singleton_self _, by unfold lv lvOf; rw [role_bar]; exact Nat.zero_lt_one⟩
  · exact absurd h (Nat.lt_irrefl 0)

theorem call_arr (w : Fin 3) : (dat m c).arrAt w cfg0.N = at₂ m c (Proc.devRef .tc (Pipeline.arrRef spec0 w)) := by
  fin_cases w
  · exact ((dat m c).arrAt_in 0 rfl _).trans (at₂_ne m c (b := main_arg0) (by decide)).symm
  · exact ((dat m c).arrAt_in 1 rfl _).trans (at₂_ne m c (b := main_v1) (by decide)).symm
  · exact (end_out m c).trans (at₂_out m c).symm

theorem staging_level : ∀ (w : Fin 3) (s : Fin (spec0 w).nbuf), lvOf (role (SemLoc.dma ((spec0 w).sem s))) = 0 := by decide

set_option backward.isDefEq.respectTransparency.types false in
def call : ℝ 0 :=
  Pipeline.RegionSeg.ofTalk (pcfgs (F := F)) adm (pdats m) () defs₀ 𝒱₀ L lv 0 ownSem (by decide : Pipeline.OwnSemFacts spec0 ownSem)
    weights others weights_sub launch0.toP rfl (fun c => (obligation m c).loose)
    (fun _ => 0) O₀ (fun c => (owed_before m c).trans (zero_add _).symm) (owed_after m) (fun _ => rfl) (fun c w => by fin_cases w <;> rfl)
    (at₁ m) (at₂ m) (fun c b hb => by
      unfold at₂
      exact Function.update_of_ne (fun e => absurd (e ▸ hb) (by decide)) _ _)
    (brought (insOf m)) (fun c => semVal (barCell c) 0) (opened (insOf m)) (fun c => semVal (barCell c) 0)
    (fun c => by
      iintro ⟨Hb, Hc, HL⟩
      iapply (open_all (insOf m) c)
      isplitl [Hb]; · iexact Hb
      isplitl [Hc]; · iapply (ownSems_eq c).1; iexact Hc
      iexact HL)
    (call_entry m) (call_exit m)
    (fun c => by iintro H; imodintro; iexact H)
    (fun _ => 0)
    ⟨fun c w s => by rw [L_tc]; exact Finset.mem_singleton_self _, fun c w s => le_of_eq (staging_level w s), fun c t g u h => call_owed m c t g u h⟩
    (fun _ => iprop(emp))
    (fun c w => by fin_cases w <;> rfl) (call_arr m)

end Cert.Nll

end
-- ==== Proof.Launch.lean ====
/-
  The launch: the cells of the protocol are set up and their rights dealt to the devices, and the program runs.
-/
module

public import proofs.«01_k».proof.Proof.Segments

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

local notation "ℍ" => Pipeline.HostSeg (Name := ℕ) (U := UU) (pcfgs (F := F)) defs₀ 𝒱₀ L lv
local notation "𝕊" => Pipeline.Seg (pcfgs (F := F)) adm (pdats m) () defs₀ 𝒱₀ L lv

/-! ## The program as three parts -/

/-- Beside the buffers, before the call -/
def carried : sProp 𝕄 := iprop(brought (insOf m) c ∗ (∃ r, prngReg c r) ∗ owing c (O₀ c))
/-- and after. -/
def settled : sProp 𝕄 := iprop(semVal (barCell c) 0 ∗ owing c 0)

theorem ops0_sub : ∀ op ∈ (hostOps0 : List (HloOp τ sig (Elt F))), op.bufs ⊆ bufs := fun op h => by
  simp only [hostOps0, List.mem_singleton] at h; subst h
  show ({Proc.devRef .tc main_arg2, Proc.devRef .tc main_v1} : Finset (DevRef τ sig)) ⊆ bufs; decide
theorem ops1_sub : ∀ op ∈ (hostOps1 : List (HloOp τ sig (Elt F))), op.bufs ⊆ bufs := fun op h => by
  simp only [hostOps1, List.mem_singleton] at h; subst h
  show ({Proc.devRef .tc main_v2, Proc.devRef .tc main_v3} : Finset (DevRef τ sig)) ⊆ bufs; decide
theorem ops0_fresh : ∀ op ∈ (hostOps0 : List (HloOp τ sig (Elt F))), op.fresh = ∅ := fun op h => by
  simp only [hostOps0, List.mem_singleton] at h; subst h; rfl
theorem ops1_fresh : ∀ op ∈ (hostOps1 : List (HloOp τ sig (Elt F))), op.fresh = ∅ := fun op h => by
  simp only [hostOps1, List.mem_singleton] at h; subst h; rfl

def first : ℍ := Pipeline.HostSeg.ofOps _ _ _ _ _ bufs hostOps0 ops0_sub ops0_fresh (at₀ m) (carried m)
def last : ℍ := Pipeline.HostSeg.ofOps _ _ _ _ _ bufs hostOps1 ops1_sub ops1_fresh (at₂ m) settled

abbrev parts : List 𝕊 := [.host (first m), .region (call m), .host (last m)]

/-- The buffers split into the call's windows and the others. -/
theorem bufs_split (W : Valuation τ sig (Elt F)) : (StableHlo.held (c : Thread nD τ) bufs W : sProp 𝕄)
    = iprop(StableHlo.held (c : Thread nD τ) (Pipeline.arrRefs (τ := τ) spec0) W ∗ StableHlo.held (c : Thread nD τ) others W) :=
  StableHlo.held_sub_split (c : Thread nD τ) staged_sub W

theorem into_call : iprop(StableHlo.held (c : Thread nD τ) bufs (at₁ m c) ∗ carried m c) ⊢ (call m).pre c := by
  show _ ⊢ iprop(StableHlo.held (c.tc : Thread nD τ) (Pipeline.arrRefs (τ := τ) spec0) (at₁ m c) ∗ (∃ r, prngReg c r)
    ∗ (StableHlo.held (c.tc : Thread nD τ) others (at₁ m c) ∗ emp) ∗ brought (insOf m) c ∗ ∃ Wd, owes (c : Thread nD τ) (0 + O₀ c) Wd)
  rw [bufs_split, zero_add]
  unfold carried owing
  iintro ⟨⟨Ha, Hr⟩, Hb, Hp, HO⟩
  isplitl [Ha]; · iexact Ha
  isplitl [Hp]; · iexact Hp
  isplitl [Hr]
  · isplitl [Hr]; · iexact Hr
    iempintro
  isplitl [Hb]; · iexact Hb
  iexact HO
theorem outof_call : (call m).post c ⊢ iprop(StableHlo.held (c : Thread nD τ) bufs (at₂ m c) ∗ settled c) := by
  show iprop(StableHlo.held (c.tc : Thread nD τ) (Pipeline.arrRefs (τ := τ) spec0) (at₂ m c) ∗ (∃ r, prngReg c r)
    ∗ (StableHlo.held (c.tc : Thread nD τ) others (at₂ m c) ∗ emp) ∗ semVal (barCell c) 0
    ∗ ∃ Wd, owes (c : Thread nD τ) (0 : CellTallies nD τ sig Unit) Wd) ⊢ _
  rw [bufs_split]
  unfold settled owing
  iintro ⟨Ha, -, ⟨Hr, -⟩, Hb, HO⟩
  isplitl [Ha Hr]; · isplitl [Ha] <;> iassumption
  isplitl [Hb] <;> iassumption

/-! ## Rights -/

/-- Every duty there is: with the `j`-th peer go one of the barrier cell, one of the send cell and one of the receive cell. -/
abbrev rightSem (j : Fin 3) : Fin 3 → SemLoc sig
  | 0 => .reg barS | 1 => .dma (sS j) | 2 => .dma (rS j)
abbrev rightDuty (j : Fin 3) : Fin 3 → Fin 3
  | 0 => j | 1 => 0 | 2 => 0
theorem right_inj : Function.Injective fun k : Fin 3 × Fin 3 => (rightSem k.1 k.2, rightDuty k.1 k.2) := by decide
def rights : Finset (GSem nD τ sig × ℕ × Fin 3) :=
  Finset.univ.map ⟨fun ck : Dev nD × Fin 3 × Fin 3 => (((ck.1 : Thread nD τ), rightSem ck.2.1 ck.2.2), 0, rightDuty ck.2.1 ck.2.2), fun _ _ h =>
    Prod.ext (congrArg (fun t : GSem nD τ sig × ℕ × Fin 3 => t.1.1.1) h)
      (right_inj (Prod.ext (congrArg (fun t : GSem nD τ sig × ℕ × Fin 3 => t.1.2) h) (congrArg (fun t : GSem nD τ sig × ℕ × Fin 3 => t.2.2) h)))⟩

theorem cells_disjoint : Disjoint (barCells : Finset (GSem nD τ sig)) scCells := by
  rw [Finset.disjoint_left]
  intro g h₁ h₂
  obtain ⟨c, -, rfl⟩ := Finset.mem_map.mp h₁
  obtain ⟨ck, -, h⟩ := Finset.mem_map.mp h₂
  exact talkSem_ne_bar ck.2 (congrArg Prod.snd h)

/-- The rights to the cells of device `c` that concern its `j`-th peer, in the order of `dues`. -/
def home (j : Fin 3) (c : Dev nD) : sProp 𝕄 :=
  iprop(dutyTok ER (barCell c) 0 j ∗ dutyTok ER (sndCell j c) 0 0 ∗ dutyTok ER (rcvCell j c) 0 0)

theorem home_eq (j : Fin 3) : (bigSep Finset.univ fun r : Fin 3 => (dutyTok ER ((c : Thread nD τ), rightSem j r) 0 (rightDuty j r) : sProp 𝕄)) = home j c := by
  rw [bigSep_fin3]; rfl

theorem rights_home : bigSep rights (fun x => (dutyTok ER x.1 x.2.1 x.2.2 : sProp 𝕄))
    ⊢ iprop((bigSep Finset.univ fun c => home 0 c) ∗ (bigSep Finset.univ fun c => home 1 c) ∗ bigSep Finset.univ fun c => home 2 c) := by
  rw [← bigSep_sep', ← bigSep_sep']
  unfold rights
  rw [bigSep_map, bigSep_univ_prod]
  refine bigSep_mono fun c _ => ?_
  rw [bigSep_univ_prod, bigSep_fin3]
  exact Entails.of_eq (congr (congrArg BIBase.sep (home_eq (F := F) c 0)) (congr (congrArg BIBase.sep (home_eq (F := F) c 1)) (home_eq (F := F) c 2)))

/-- Each device passes the rights to its barrier and receive cells to the peer they are for. -/
theorem home_dues (j : Fin 3) : (bigSep Finset.univ fun c : Dev nD => (home j c : sProp 𝕄)) ⊢ bigSep Finset.univ fun c : Dev nD => dues j c := by
  unfold home dues
  rw [bigSep_sep', bigSep_sep', bigSep_sep', bigSep_sep', bigSep_univ_equiv (peers j) (fun c : Dev nD => (dutyTok ER (barCell c) 0 j : sProp 𝕄)),
    bigSep_univ_equiv (peers j) (fun c : Dev nD => (dutyTok ER (rcvCell j c) 0 0 : sProp 𝕄))]
  exact BIBase.Entails.rfl

/-! ## Units to receive -/

theorem bar_eq_iff (c d : Dev nD) : (barCell c : GSem nD τ sig) = barCell d ↔ c = d := by revert c d; decide
theorem rcv_eq_iff (j k : Fin 3) (c d : Dev nD) : (rcvCell j c : GSem nD τ sig) = rcvCell k d ↔ j = k ∧ c = d := by revert j k c d; decide
theorem bar_ne_rcv (k : Fin 3) (c d : Dev nD) : ¬ (barCell c : GSem nD τ sig) = rcvCell k d := by revert k c d; decide
theorem peer_eq_iff (k : Fin 3) (c d : Dev nD) : c = peer k d ↔ d = peer k c := by revert k c d; decide

theorem at_bar_rcv (k : Fin 3) (n : ℕ) (c d : Dev nD) : (tallyAt (rcvCell k d) () n : CellTallies nD τ sig Unit) (barCell c) () = 0 := by
  rw [tallyAt_apply]; exact if_neg fun h => bar_ne_rcv k c d h.1
theorem at_bar_bar (k : Fin 3) (n : ℕ) (c d : Dev nD) :
    (tallyAt (barCell (peer k d)) () n : CellTallies nD τ sig Unit) (barCell c) () = if d = peer k c then n else 0 := by
  rw [tallyAt_apply]; exact if_congr ⟨fun h => (peer_eq_iff k c d).mp ((bar_eq_iff _ _).mp h.1), fun h => ⟨(bar_eq_iff _ _).mpr ((peer_eq_iff k c d).mpr h), rfl⟩⟩ rfl rfl
theorem at_rcv_bar (j : Fin 3) (n : ℕ) (c d : Dev nD) : (tallyAt (barCell d) () n : CellTallies nD τ sig Unit) (rcvCell j c) () = 0 := by
  rw [tallyAt_apply]; exact if_neg fun h => bar_ne_rcv j d c h.1.symm
theorem at_rcv_rcv (j k : Fin 3) (n : ℕ) (c d : Dev nD) :
    (tallyAt (rcvCell k (peer k d)) () n : CellTallies nD τ sig Unit) (rcvCell j c) () = if j = k then (if d = peer k c then n else 0) else 0 := by
  rw [tallyAt_apply]
  by_cases hj : j = k
  · rw [if_pos hj]
    exact if_congr ⟨fun h => (peer_eq_iff k c d).mp ((rcv_eq_iff _ _ _ _).mp h.1).2, fun h => ⟨(rcv_eq_iff _ _ _ _).mpr ⟨hj, (peer_eq_iff k c d).mpr h⟩, rfl⟩⟩ rfl rfl
  · rw [if_neg hj]; exact if_neg fun h => hj ((rcv_eq_iff _ _ _ _).mp h.1).1

theorem sum_at (a : Dev nD) (n : ℕ) : (∑ d : Dev nD, if d = a then n else 0) = n := by
  rw [Finset.sum_ite_eq', if_pos (Finset.mem_univ a)]

theorem owed_bar (d : Dev nD) : O₀ d (barCell c) () = (if d = peer 2 c then 1 else 0) + (if d = peer 1 c then 1 else 0) + (if d = peer 0 c then 1 else 0) := by
  show (tallyAt (rcvCell 2 (peer 2 d)) () N : CellTallies nD τ sig Unit) (barCell c) () + (tallyAt (rcvCell 1 (peer 1 d)) () N : CellTallies nD τ sig Unit) (barCell c) ()
    + (tallyAt (rcvCell 0 (peer 0 d)) () N : CellTallies nD τ sig Unit) (barCell c) () + (tallyAt (barCell (peer 2 d)) () 1 : CellTallies nD τ sig Unit) (barCell c) ()
    + (tallyAt (barCell (peer 1 d)) () 1 : CellTallies nD τ sig Unit) (barCell c) () + (tallyAt (barCell (peer 0 d)) () 1 : CellTallies nD τ sig Unit) (barCell c) () = _
  rw [at_bar_rcv 2, at_bar_rcv 1, at_bar_rcv 0, at_bar_bar 2, at_bar_bar 1, at_bar_bar 0, zero_add, zero_add, zero_add]
theorem owed_rcv (j : Fin 3) (d : Dev nD) : O₀ d (rcvCell j c) () = (if j = 2 then (if d = peer 2 c then N else 0) else 0)
    + (if j = 1 then (if d = peer 1 c then N else 0) else 0) + (if j = 0 then (if d = peer 0 c then N else 0) else 0) := by
  show (tallyAt (rcvCell 2 (peer 2 d)) () N : CellTallies nD τ sig Unit) (rcvCell j c) () + (tallyAt (rcvCell 1 (peer 1 d)) () N : CellTallies nD τ sig Unit) (rcvCell j c) ()
    + (tallyAt (rcvCell 0 (peer 0 d)) () N : CellTallies nD τ sig Unit) (rcvCell j c) () + (tallyAt (barCell (peer 2 d)) () 1 : CellTallies nD τ sig Unit) (rcvCell j c) ()
    + (tallyAt (barCell (peer 1 d)) () 1 : CellTallies nD τ sig Unit) (rcvCell j c) () + (tallyAt (barCell (peer 0 d)) () 1 : CellTallies nD τ sig Unit) (rcvCell j c) () = _
  rw [at_rcv_rcv j 2, at_rcv_rcv j 1, at_rcv_rcv j 0, at_rcv_bar, at_rcv_bar, at_rcv_bar, add_zero, add_zero, add_zero]

theorem bar_units : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib, Finset.sum_add_distrib,
    sum_at, sum_at, sum_at]
theorem rcv_units (j : Fin 3) : tallyOn (rcvCell j c) (launchCredit (Pipeline.owing O₀) 0 (rcvCell j c)) = (tallyAt (rcvCell j c) () N : CellTallies nD τ sig Unit) := by
  unfold tallyAt; refine congrArg _ (Finsupp.ext fun u => ?_); cases u
  rw [Pipeline.launchCredit_owing, Finsupp.single_eq_same, Finset.sum_congr rfl fun d _ => owed_rcv c j d, Finset.sum_add_distrib, Finset.sum_add_distrib]
  obtain rfl | rfl | rfl : j = 0 ∨ j = 1 ∨ j = 2 := by revert j; decide
  all_goals simp only [if_true, if_false, Fin.reduceEq, Finset.sum_const_zero, zero_add, add_zero, sum_at]

theorem units : (Pipeline.launchCred O₀ c : sProp 𝕄) ⊢ iprop(cred (tallyAt (barCell c) () 3)
    ∗ cred (tallyAt (rcvCell 0 c) () N) ∗ cred (tallyAt (rcvCell 1 c) () N) ∗ cred (tallyAt (rcvCell 2 c) () N)) := by
  unfold Pipeline.launchCred
  refine (BI.bigSep_subset (Finset.subset_univ ({SemLoc.reg barS, SemLoc.dma (rS 0), SemLoc.dma (rS 1), SemLoc.dma (rS 2)} : Finset (SemLoc sig)))).trans ?_
  rw [← bar_units, ← rcv_units, ← rcv_units, ← rcv_units]
  exact Entails.of_eq (bigSep_eq_bigSepL_of_eq [SemLoc.reg barS, SemLoc.dma (rS 0), SemLoc.dma (rS 1), SemLoc.dma (rS 2)] (by decide) (by decide) _)

end Cert.Nll

end
-- ==== Proof.Run.lean ====
/-
  The run: from any memory with the counters at zero the program ends, its arguments unchanged, its counters at zero, and every
  device's result is `Ins.out` of what the memory held, as a row.
-/
module

public import proofs.«01_k».proof.Proof.Launch
public import Idealize.ShloMosaic.Harness.Basic

@[expose] public section

noncomputable section

namespace Cert.Nll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the launch hands out -/

/-- The ghost state the launch starts from: the call's staging cells', and the protocol's. -/
def seed : UU :=
  (initOf (Pipeline.cells (Pipeline.pin (pcfgs (F := F)) adm) cellOf_inj) (Pipeline.launchToks (Pipeline.pin (pcfgs (F := F)) adm) cellOf_inj),
    (launchOf barCells scCells rights, 1))

abbrev protocolSeed : sProp 𝕄 := BI.own (ER (launchOf barCells scCells rights))

/-- The protocol's part is given to device 0. -/
def share (c : Dev nD) : sProp 𝕄 := if c = 0 then protocolSeed else iprop(emp)
theorem share_all : bigSep Finset.univ (share (F := F)) = protocolSeed := by
  rw [bigSep_univ_at _ (0 : Dev nD), bigSep_congr (s := Finset.univ.erase (0 : Dev nD)) (Ψ := fun _ => (BI.emp : sProp 𝕄))
      fun c hc => by unfold share; rw [if_neg (Finset.ne_of_mem_erase hc)]; rfl, BI.bigSep_emp_const]
  unfold share; rw [if_pos rfl]
  exact BI.equiv_iff.mp sep_emp

theorem seed_split : (ownU (seed (F := F)) : sProp 𝕄) ⊢ iprop(BI.own (EP (initOf (Pipeline.cells (Pipeline.pin (pcfgs (F := F)) adm) cellOf_inj)
    (Pipeline.launchToks (Pipeline.pin (pcfgs (F := F)) adm) cellOf_inj))) ∗ protocolSeed) := by
  unfold seed
  iintro H
  ihave H := (ownU_pair _ _) $$ H
  icases H with ⟨HP, HX⟩
  isplitl [HP]; · iexact HP
  ihave HX := (own_pair_emb _ _ _) $$ HX
  icases HX with ⟨HX, -⟩
  iexact HX

/-- What a device holds at launch that is not of the protocol: its buffers, its units to receive, what it owes. -/
def outfit : sProp 𝕄 :=
  iprop(StableHlo.held (c : Thread nD τ) bufs (at₀ m c)
    ∗ (cred (tallyAt (barCell c) () 3) ∗ cred (tallyAt (rcvCell 0 c) () N) ∗ cred (tallyAt (rcvCell 1 c) () N) ∗ cred (tallyAt (rcvCell 2 c) () N))
    ∗ owes (c : Thread nD τ) (O₀ c) ∅ ∗ ∃ r, prngReg c r)
/-- And what of the protocol. -/
def opening (j : Fin 3) (c : Dev nD) : sProp 𝕄 := iprop(openTok ER (sndCell j c) ∗ openTok ER (rcvCell j c))
def membership : sProp 𝕄 :=
  iprop(atPos ER (barCell c) 0 ∅ 0 ∗ (opening 0 c ∗ opening 1 c ∗ opening 2 c) ∗ dues 0 c ∗ dues 1 c ∗ dues 2 c)

abbrev from₀ : sProp 𝕄 := iprop(StableHlo.held (c : Thread nD τ) bufs (at₀ m c) ∗ carried m c)
abbrev upto : sProp 𝕄 := iprop(StableHlo.held (c : Thread nD τ) bufs (at₃ m c) ∗ semVal (barCell c) 0)

theorem from₀_intro (K : GSem nD τ sig → ℕ) : iprop(records (insOf m) K ∗ (membership c ∗ outfit m c)) ⊢ from₀ m c := by
  unfold from₀ membership opening outfit carried brought dormant barPart owing
  iintro ⟨#HR, ⟨Hat, ⟨Ho0, Ho1, Ho2⟩, Hd0, Hd1, Hd2⟩, Hh, ⟨Hb, Hc0, Hc1, Hc2⟩, HO, Hp⟩
  isplitl [Hh]; · iexact Hh
  isplitr [HO Hp]
  · isplitr [Hb Hat]
    · iexists K
      isplitr; · iexact HR
      isplitl [Ho0 Hd0 Hc0]
      · isplitl [Hd0]; · iexact Hd0
        isplitl [Ho0] <;> iassumption
      isplitl [Ho1 Hd1 Hc1]
      · isplitl [Hd1]; · iexact Hd1
        isplitl [Ho1] <;> iassumption
      isplitl [Hd2]; · iexact Hd2
      isplitl [Ho2] <;> iassumption
    isplitl [Hb] <;> iassumption
  isplitl [Hp]; · iexact Hp
  iexists ∅; iexact HO

theorem bar_only : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem bufs_only (W : Valuation τ sig (Elt F)) : (unscopedBufs c (fun b => W (Proc.devRef .tc b)) : sProp 𝕄) = StableHlo.held (c : Thread nD τ) bufs W := by
  unfold unscopedBufs StableHlo.held bufs StableHlo.tcRefs
  rw [Finset.filter_map, BI.bigSep_map]; rfl

theorem openings_at : (bigSep Finset.univ fun k : Fin 6 => (openTok ER ((c : Thread nD τ), talkSem k) : sProp 𝕄)) ⊢ iprop(opening 0 c ∗ opening 1 c ∗ opening 2 c) := by
  rw [show (bigSep Finset.univ fun k : Fin 6 => (openTok ER ((c : Thread nD τ), talkSem k) : sProp 𝕄))
      = iprop(openTok ER ((c : Thread nD τ), talkSem 0) ∗ openTok ER ((c : Thread nD τ), talkSem 1) ∗ openTok ER ((c : Thread nD τ), talkSem 2)
        ∗ openTok ER ((c : Thread nD τ), talkSem 3) ∗ openTok ER ((c : Thread nD τ), talkSem 4) ∗ openTok ER ((c : Thread nD τ), talkSem 5))
      from bigSep_univ_eq_bigSepL [0, 1, 2, 3, 4, 5] (by decide) (by decide) _]
  unfold opening
  iintro ⟨H0, H1, H2, H3, H4, H5⟩
  isplitl [H0 H3]; · isplitl [H0]; · iexact H0
                     iexact H3
  isplitl [H1 H4]; · isplitl [H1]; · iexact H1
                     iexact H4
  isplitl [H2]; · iexact H2
  iexact H5

theorem outfit_of : iprop(unscopedBufs c (fun b => m ((c : Thread nD τ).loc b)) ∗ unscopedSems0 c
      ∗ owes (c : Thread nD τ) (O₀ c) ∅ ∗ Pipeline.launchCred O₀ c ∗ prngReg c (ρ c) ∗ share c)
    ⊢ (iprop(outfit m c ∗ (semVal (barCell c) 0 ∗ share c)) : sProp 𝕄) := by
  rw [show unscopedBufs c (fun b => m ((c : Thread nD τ).loc b)) = StableHlo.held (c : Thread nD τ) bufs (at₀ m c) from bufs_only c (at₀ m c), bar_only]
  unfold outfit
  iintro ⟨Hh, Hs, HO, Hc, Hp, HG⟩
  ihave Hc := (units (F := F) c) $$ Hc
  isplitl [Hh HO Hc Hp]
  · isplitl [Hh]; · iexact Hh
    isplitl [Hc]; · iexact Hc
    isplitl [HO]; · iexact HO
    iexists (ρ c); iexact Hp
  isplitl [Hs] <;> iassumption

/-- The launch's one step: the barrier's cells are set up and started, the messages' set up, and the rights dealt. -/
theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ share c)) ∗ levAts L lv)
      ⊢ (|={Set.univ}=> bigSep Finset.univ (from₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => iprop(opening 0 c ∗ opening 1 c ∗ opening 2 c)) := by
    rw [bigSep_map, bigSep_univ_prod]
    exact bigSep_mono fun c _ => openings_at c
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ share c))
      ⊢ (bigSep Finset.univ fun c : Dev nD => iprop(outfit m c ∗ (semVal (barCell c) 0 ∗ share c)) : sProp 𝕄) from bigSep_mono fun c _ => outfit_of m ρ c) $$ H
  ihave H := bigSep_unpair $$ H; icases H with ⟨HB, H⟩
  ihave H := bigSep_unpair $$ H; icases H with ⟨Hv, HG⟩
  ihave Hu := (Entails.of_eq (share_all (F := F))) $$ HG
  imod (Rounds.fund_launch ER (talk (insOf m)) cells_disjoint (fun g _ h => h) rights) $$ [Hv Hu] with ⟨%K, -, #Hinv, #Hr, Hat, Hopen, Htok⟩
  · isplitl [Hv]
    · iapply hv $$ Hv
    · iexact Hu
  imodintro
  iapply (bigSep_with_persistent (R := records (insOf m) K) (Φ := fun c => iprop(membership c ∗ outfit m c)) fun c _ => from₀_intro m c K)
  isplitr
  · unfold records
    isplitr; · iexact Hinv
    iexact Hr
  iapply bigSep_pair
  isplitr [HB]
  · unfold membership
    iapply bigSep_pair; isplitl [Hat]; · iapply hat $$ Hat
    iapply bigSep_pair; isplitl [Hopen]; · iapply hopen $$ Hopen
    ihave Htok := (rights_home (F := F)) $$ Htok
    icases Htok with ⟨H0, H1, H2⟩
    iapply bigSep_pair; isplitl [H0]; · iapply (home_dues (F := F) 0) $$ H0
    iapply bigSep_pair; isplitl [H1]; · iapply (home_dues (F := F) 1) $$ H1
    iapply (home_dues (F := F) 2) $$ H2
  · iexact HB

/-! ## The run -/

/-- A device's buffers, one by one. -/
theorem bufs_listed (W : Valuation τ sig (Elt F)) : (StableHlo.held (c : Thread nD τ) bufs W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v1) ↦{fullShare} W main_v1)
      ∗ (((c : Thread nD τ).loc main_v2) ↦{fullShare} W main_v2) ∗ (((c : Thread nD τ).loc main_v3) ↦{fullShare} W main_v3)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide)]
  rfl

theorem unscoped_eq : ∀ sm : SemLoc sig, sm.isScoped .tc = false → sm = .reg barS := by decide

set_option backward.isDefEq.respectTransparency.types false in
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = shapeCast S1024 ((insOf m).out c) shapeCasts_S1024x1_S1024) ∧ r.2.sem = fun _ => 0) :=
  Pipeline.θ_run_regions_kit_sems (pcfgs (F := F)) adm (pdats m) () cellOf_inj EP defs₀ 𝒱₀ L lv m ρ main (parts m)
    (fun c Q => by rw [main_segs adm (pdats m) () 𝒱₀ L lv (first m) (last m) (call m) rfl rfl c])
    (by simp only [parts, Pipeline.Seg.pipes_host, Pipeline.Seg.pipes_region, Pipeline.Seg.pipes_nil]; decide)
    (O₀ := O₀) (hL := L_of_ne) (G := share) (u₀ := seed)
    (hu₀ := by
      iintro Hu
      ihave H := (seed_split (F := F)) $$ Hu
      icases H with ⟨HP, HX⟩
      imodintro
      isplitl [HP]; · iexact HP
      rw [share_all]; iexact HX)
    (T₀ := from₀ m) (Tₙ := upto m)
    (hch := by
      refine ⟨fun c => .rfl, fun c => into_call m c, fun c => outof_call m c, fun c => ?_⟩
      show iprop(StableHlo.held (c : Thread nD τ) bufs (at₃ m c) ∗ settled c)
        ⊢ iprop(upto m c ∗ ∃ W, owes (c : Thread nD τ) (0 : CellTallies nD τ sig Unit) W)
      unfold settled owing
      iintro ⟨Hh, Hb0, HO⟩
      isplitr [HO]
      · isplitl [Hh] <;> iassumption
      · iexact HO)
    (hinit := deal m ρ)
    (QY := fun c s => (s.mem ((c : Thread nD τ).loc main_arg0) = at₃ m c main_arg0 ∧ s.mem ((c : Thread nD τ).loc main_arg1) = at₃ m c main_arg1
      ∧ s.mem ((c : Thread nD τ).loc main_arg2) = at₃ m c main_arg2 ∧ s.mem ((c : Thread nD τ).loc main_v3) = at₃ m c main_v3)
      ∧ s.sem (barCell c) = 0)
    (hfin := fun c s' => by
      dsimp only [upto]; rw [bufs_listed]
      iintro ⟨⟨⟨H0, H1, H2, -, -, H3⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [at₃_ne m c (b := main_arg0) (by decide), at₂_ne m c (b := main_arg0) (by decide), at₁_ne m c (b := main_arg0) (by decide)] at h0
        rw [at₃_ne m c (b := main_arg1) (by decide), at₂_ne m c (b := main_arg1) (by decide), at₁_ne m c (b := main_arg1) (by decide)] at h1
        rw [at₃_ne m c (b := main_arg2) (by decide), at₂_ne m c (b := main_arg2) (by decide), at₁_ne m c (b := main_arg2) (by decide)] at h2
        rw [at₃_out] at h3
        exact ⟨h0, h1, h2, h3⟩,
      sem_eq_zero hs fun c sm hsm => by
        obtain rfl := unscoped_eq sm hsm
        exact (h c).2⟩)

end Cert.Nll

end
-- ==== Proof.Frames.lean ====
/-
  The three frames. The printed program and its ideal reading are the same text, so the one run over any floats gives both;
  the reference's operations write none of its arguments, and it has no semaphore.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Nll

open Idealize.ShloMosaic Idealize.SL.Sem

theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- The printed program's bodies are those of the ideal reading. -/
theorem defs₀_same : Cert.Kernel.defs₀ (F := Bits) = Cert.KernelIdeal.defs₀ (F := Bits) := by
  refine congrArg Defs.onTc (funext fun l => funext fun a => ?_)
  match l, a with
  | 0, (t, s) => rfl
theorem defs_same : Cert.Kernel.defs (F := Bits) = Cert.KernelIdeal.defs (F := Bits) :=
  congrArg (Pipeline.defs (Cert.KernelIdeal.pcfgs (F := Bits))) defs₀_same

theorem frame_kernel : Cert.quiescent_Kernel := fun m ρ _ => by
  rw [defs_same]
  exact (θ_run Cert.KernelIdeal.defs _ _).mono (fun _ h => ⟨fun c => ⟨(h.1 c).1, (h.1 c).2.1, (h.1 c).2.2.1⟩, h.2⟩) (run_main (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Nll

end
-- ==== Proof.Softmax.lean ====
/-
The mathematics of the result, on real numbers: the sum of the exponentials may be taken without the shift by the
maximum; the sum over the columns of the weights is the sum over devices, tiles and columns of a tile; the label's
logit is the sum of the logits with all other columns struck out. Then the same for the extended reals in which the
programs compute, as long as every number is finite.
-/
module

public import proofs.«01_k».proof.Proof.Protocol
public import Idealize.ShloMosaic.Lib.Pointwise

@[expose] public section

noncomputable section

namespace Cert.Nll

open Idealize.ShloMosaic Cert.KernelIdeal

/-! ## The problem -/

/-- The logit of row `p` for column `v`. -/
def dot (X : Fin 1024 → Fin 2048 → ℝ) (W : Fin 2048 → Fin 32768 → ℝ) (p : Fin 1024) (v : Fin 32768) : ℝ := ∑ k, X p k * W k v

/-- The negative log-likelihood of row `p`'s label `L p`. -/
def nll (X : Fin 1024 → Fin 2048 → ℝ) (W : Fin 2048 → Fin 32768 → ℝ) (L : Fin 1024 → Fin 32768) (p : Fin 1024) : ℝ :=
  Real.log (∑ v, Real.exp (dot X W p v)) - dot X W p (L p)

/-! ## Real numbers -/

/-- The logarithm of a sum of exponentials, with every exponent shifted down by `M` and `M` added again. -/
theorem log_sum_shift {n : ℕ} (hn : 0 < n) (z : Fin n → ℝ) (M : ℝ) :
    M + Real.log (∑ v, Real.exp (z v - M)) = Real.log (∑ v, Real.exp (z v)) := by
  have hpos : 0 < ∑ v, Real.exp (z v - M) := Finset.sum_pos (fun v _ => Real.exp_pos _) ⟨⟨0, hn⟩, Finset.mem_univ _⟩
  have hs : ∑ v, Real.exp (z v) = Real.exp M * ∑ v, Real.exp (z v - M) := by
    rw [Finset.mul_sum]
    refine Finset.sum_congr rfl fun v _ => ?_
    rw [← Real.exp_add]; congr 1; ring
  rw [hs, Real.log_mul (Real.exp_pos M).ne' hpos.ne', Real.log_exp]

/-- Column `j` of tile `t` of device `c`, among all 32768 columns. -/
def column (c : Fin 4) (t : Fin 8) (j : Fin 1024) : Fin 32768 :=
  ⟨(c.val % 2) * 16384 + (c.val / 2) * 8192 + 1024 * t.val + j.val, by omega⟩

/-- Every column is one device's, in one place of one of its tiles. -/
theorem column_bijective : Function.Bijective fun p : (Fin 4 × Fin 8) × Fin 1024 => column p.1.1 p.1.2 p.2 := by
  constructor
  · rintro ⟨⟨c, t⟩, j⟩ ⟨⟨c', t'⟩, j'⟩ h
    have hv := congrArg Fin.val h
    simp only [column] at hv
    have hj : j.val = j'.val := by omega
    have ht : t.val = t'.val := by omega
    have hx : c.val / 2 = c'.val / 2 := by omega
    have hy : c.val % 2 = c'.val % 2 := by omega
    have hc : c.val = c'.val := by omega
    rw [Fin.ext hj, Fin.ext ht, Fin.ext hc]
  · intro v
    refine ⟨((⟨(v.val / 8192 % 2) * 2 + v.val / 16384, by omega⟩, ⟨v.val / 1024 % 8, by omega⟩), ⟨v.val % 1024, by omega⟩), ?_⟩
    have hy : ((v.val / 8192 % 2) * 2 + v.val / 16384) % 2 = v.val / 16384 := by
      have : v.val / 16384 < 2 := by omega
      rw [Nat.mul_comm, Nat.mul_add_mod, Nat.mod_eq_of_lt this]
    have hx : ((v.val / 8192 % 2) * 2 + v.val / 16384) / 2 = v.val / 8192 % 2 := by
      have : v.val / 16384 < 2 := by omega
      rw [Nat.mul_comm, Nat.mul_add_div (by decide), Nat.div_eq_of_lt this, Nat.add_zero]
    refine Fin.ext ?_
    show ((v.val / 8192 % 2) * 2 + v.val / 16384) % 2 * 16384 + ((v.val / 8192 % 2) * 2 + v.val / 16384) / 2 * 8192
      + 1024 * (v.val / 1024 % 8) + v.val % 1024 = v.val
    rw [hx, hy]
    omega

/-- The sum over all columns by devices, tiles, and columns of a tile. -/
theorem sum_columns (f : Fin 32768 → ℝ) : ∑ c : Fin 4, ∑ t : Fin 8, ∑ j : Fin 1024, f (column c t j) = ∑ v, f v := by
  rw [← column_bijective.sum_comp f, Fintype.sum_prod_type, Fintype.sum_prod_type]

/-- A device's share and its three peers' make up the sum over the devices, whichever device adds them. -/
theorem sum_peers (f : Fin 4 → ℝ) (c : Fin 4) : f c + (f (peer 0 c) + f (peer 1 c) + f (peer 2 c)) = ∑ d, f d := by
  have h : ∀ c : Fin 4, (peer 0 c, peer 1 c, peer 2 c) = (![(2, 1, 3), (3, 0, 2), (0, 3, 1), (1, 2, 0)] : Fin 4 → Fin 4 × Fin 4 × Fin 4) c := by decide
  have hc := h c
  rw [Prod.mk.injEq, Prod.mk.injEq] at hc
  obtain ⟨h0, h1, h2⟩ := hc
  rw [h0, h1, h2, Fin.sum_univ_four]
  fin_cases c <;> simp <;> ring

/-- The one term not struck out. -/
theorem sum_struck {n : ℕ} (f : Fin n → ℝ) (l : Fin n) : ∑ v, (if v = l then f v else 0) = f l := by
  rw [Finset.sum_ite_eq' Finset.univ l f, if_pos (Finset.mem_univ l)]

/-! ## Extended reals -/

/-- A finite sum of real numbers, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many real numbers, at least one, is a real number, also when it is looked for from minus infinity. -/
theorem coe_max {n : ℕ} (hn : 0 < n) (z : Fin n → ℝ) :
    ∃ M : ℝ, (Finset.univ : Finset (Fin n)).fold max (⊥ : EReal) (fun v => ((z v : ℝ) : EReal)) = (M : EReal) := by
  classical
  have h : ∀ s : Finset (Fin n), s.Nonempty → ∃ M : ℝ, s.fold max (⊥ : EReal) (fun v => ((z v : ℝ) : EReal)) = (M : EReal) := by
    intro s hs
    induction hs using Finset.Nonempty.cons_induction with
    | singleton a => exact ⟨z a, by simp⟩
    | cons a s ha hs ih =>
      obtain ⟨M, hM⟩ := ih
      exact ⟨max (z a) M, by rw [Finset.fold_cons, hM]; exact (EReal.coe_strictMono.monotone.map_max).symm⟩
  exact h _ ⟨⟨0, hn⟩, Finset.mem_univ _⟩

/-- A product of rows and columns of real numbers, taken among the extended reals. -/
theorem coe_dot {n : ℕ} (a b : Fin n → ℝ) : ∑ k, ((a k : ℝ) : EReal) * ((b k : ℝ) : EReal) = ((∑ k, a k * b k : ℝ) : EReal) := by
  rw [← coe_sum]
  exact Finset.sum_congr rfl fun k _ => (EReal.coe_mul _ _).symm

/-- The logarithm of a positive real number. -/
theorem log_coe {r : ℝ} (h : 0 < r) : Ideal.log (r : EReal) = ((Real.log r : ℝ) : EReal) := if_neg (not_le.mpr h)

/-- The exponential of a real number. -/
theorem exp_coe (r : ℝ) : Ideal.exp (r : EReal) = ((Real.exp r : ℝ) : EReal) := rfl

/-- The bit pattern of minus infinity. -/
theorem ofBits_neg_inf : Ideal.ofBits .f32 0xFF800000#32 = ⊥ := by simp [Ideal.ofBits, Ideal.ieee]
/-- The bit pattern of infinity. -/
theorem ofBits_inf : Ideal.ofBits .f32 0x7F800000#32 = ⊤ := by simp [Ideal.ofBits, Ideal.ieee]

/-! ## Words -/

/-- A small number, read as a signed word. -/
theorem toNat_word {n : ℕ} (h : n < 2 ^ 31) : (BitVec.ofNat 32 n).toInt.toNat = n := by
  rw [BitVec.toInt_eq_toNat_of_lt (by rw [BitVec.toNat_ofNat]; omega), BitVec.toNat_ofNat, Int.toNat_natCast]
  omega

/-- An index that is not negative is left as it is where negative ones are wrapped. -/
theorem wrap_word {n : ℕ} (h : n < 2 ^ 31) (b : BitVec 32) :
    Scalar.select (IntOp.cmpi .slt (BitVec.ofNat 32 n) 0#32) b (BitVec.ofNat 32 n) = BitVec.ofNat 32 n := by
  have hs : (BitVec.ofNat 32 n).slt 0#32 = false := by
    rw [BitVec.slt_eq_decide, BitVec.toInt_eq_toNat_of_lt (by rw [BitVec.toNat_ofNat]; omega)]
    simp only [BitVec.ofNat_eq_ofNat, BitVec.toInt_zero, decide_eq_false_iff_not, not_lt]
    exact Int.natCast_nonneg _
  show Scalar.select (BitVec.ofBool ((BitVec.ofNat 32 n).slt 0#32)) b (BitVec.ofNat 32 n) = _
  rw [hs]; rfl

end Cert.Nll

end
-- ==== Proof.Values.lean ====
/-
The kernel's value: with real numbers for the activations and the weights and a column for each label, each device's
result at a row is the negative log-likelihood of the row's label. First the pieces of the computation at an index,
then a tile's logits as logits of the whole problem, a device's two sums, and the sums over the four devices.
-/
module

public import proofs.«01_k».proof.Proof.Region
public import proofs.«01_k».proof.Proof.Softmax

@[expose] public section

noncomputable section

namespace Cert.Nll

open Idealize.ShloMosaic Idealize.ShloMosaic.TcCoe Cert.KernelIdeal Cert.KernelIdeal.Gen

/-! ## The pieces at an index -/

/-- Rounding the activations changes nothing here. -/
theorem rounded_at (x : FVec Ideal S1024x2048 .f32) (p : Fin 1024) (k : Fin 2048) : k0_pay2 (F := Ideal) x (ix2 p k) = x (ix2 p k) := by
  pointwise [k0_pay2]

/-- The sums start at zero. -/
theorem zeros_at (p : Fin 1024) : k0_pay3 (F := Ideal) (ix2 p 0) = ((0 : ℝ) : EReal) ∧ k0_pay4 (F := Ideal) (ix2 p 0) = ((0 : ℝ) : EReal) := by
  rw [EReal.coe_zero]
  pointwise [k0_pay3, k0_pay4]

/-- A tile's logit. -/
theorem logit_at (x : FVec Ideal S1024x2048 .bf16) (w : FVec Ideal S2048x1024 .f32) (p : Fin 1024) (j : Fin 1024) :
    logit x w (ix2 p j) = ∑ k : Fin 2048, x (ix2 p k) * w (ix2 k j) := by
  pointwise [logit]

/-- One step of the sum of exponentials. -/
theorem sStep_at (a : FVec Ideal S1024x1 .f32) (z : FVec Ideal S1024x1024 .f32) (p : Fin 1024) :
    sStep a z (ix2 p 0) = a (ix2 p 0) + ∑ j : Fin 1024, Ideal.exp (z (ix2 p j)) := by
  pointwise [sStep]

/-- One step of the sum of the label's logits. -/
theorem tStep_at (b : BitVec 32) (a : FVec Ideal S1024x1 .f32) (z : FVec Ideal S1024x1024 .f32) (l : IVec S1024x1 32) (p : Fin 1024) :
    tStep b a z l (ix2 p 0) = a (ix2 p 0)
      + ∑ j : Fin 1024, Scalar.select (IntOp.cmpi .eq (BitVec.ofNat 32 j.val) (IntOp.subi (l (ix2 p 0)) b)) (z (ix2 p j)) 0 := by
  pointwise [tStep]

/-- The result from the sums of a device and its peers. -/
theorem result_at (s t : FVec Ideal S1024x1 .f32) (a b c d e f : FVec Ideal S1x1024x1 .f32) (p : Fin 1024) :
    shapeCast S1024 (k0_pay1 s t a b c d e f) shapeCasts_S1024x1_S1024 (ix1 p)
      = Ideal.log (s (ix2 p 0) + a (ix3 0 p 0) + b (ix3 0 p 0) + c (ix3 0 p 0))
        - (t (ix2 p 0) + d (ix3 0 p 0) + e (ix3 0 p 0) + f (ix3 0 p 0)) := by
  pointwise [k0_pay1]

/-- The labels as a column. -/
theorem labels_at (l : IVec S1024 32) (p : Fin 1024) : shapeCast S1024x1 l shapeCasts_S1024_S1024x1 (ix2 p 0) = l (ix1 p) := by
  pointwise

/-- Column 0 of a message is the sum of exponentials, column 1 the sum of the label's logits. -/
theorem message_at (i : Ins Ideal) (c : Dev nD) (p : Fin 1024) :
    i.col c 0 (ix3 0 p 0) = i.s7 c (ix2 p 0) ∧ i.col c 1 (ix3 0 p 0) = i.t7 c (ix2 p 0) := by
  constructor
  · show i.s7 c _ = _
    congr 1
    funext a
    match a with | 0 => rfl | 1 => rfl
  · show i.t7 c _ = _
    congr 1
    funext a
    match a with | 0 => rfl | 1 => rfl

/-! ## Where a tile lies -/

/-- Where tile `t` starts in the device's own columns. -/
theorem tile_start (c : Dev nD) (t : Fin 8) : k0_off1 c (BitVec.ofNat 32 (1024 * t.val)) = ![0, (c.val / 2) * 8192 + 1024 * t.val] := by
  revert c t; decide

/-- The number of its first column among all columns. -/
theorem base_word (c : Dev nD) (t : Fin 8) : colBase c t = BitVec.ofNat 32 ((c.val % 2) * 16384 + (c.val / 2) * 8192 + 1024 * t.val) := by
  revert c t; decide

/-- A tile's entries among the device's weights. -/
theorem tile_at (i : Ins Ideal) (c : Dev nD) (t : Fin 8) (k : Fin 2048) (j : Fin 1024) :
    i.tile c t (ix2 k j) = i.w c (ix2 k ⟨(c.val / 2) * 8192 + 1024 * t.val + j.val, by have : c.val < 4 := c.isLt; omega⟩) := by
  unfold Ins.tile
  show i.w c _ = _
  congr 1
  funext a
  refine Fin.ext ?_
  match a with
  | 0 =>
    show k0_off1 c (BitVec.ofNat 32 (1024 * t.val)) 0 + 1 * k.val = k.val
    rw [tile_start]; simp
  | 1 =>
    show k0_off1 c (BitVec.ofNat 32 (1024 * t.val)) 1 + 1 * j.val = _
    rw [tile_start]; simp

/-- A device's entries among all weights. -/
theorem block_at (w : FVec Ideal ⟨2, ![2048, 32768]⟩ .f32) (c : Dev nD) (b : FVec Ideal S2048x16384 .f32)
    (hb : b = Layout.blockN ⟨2, ![2048, 16384]⟩ ⟨2, ![2048, 32768]⟩ (Layout.meshBlock [2, 2] ![[], [1]] c) w) (k : Fin 2048) (v : Fin 16384) :
    b (ix2 k v) = w (ix2 k ⟨(c.val % 2) * 16384 + v.val, by omega⟩) := by
  have hy : ∀ c : Dev nD, Layout.meshLin [2, 2] c.val [1] = c.val % 2 := by decide
  rw [hb]
  unfold Layout.blockN
  congr 1
  funext a
  refine Fin.ext ?_
  rw [Layout.TilesN.idx_val]
  match a with
  | 0 =>
    show 0 * 2048 + k.val = k.val
    omega
  | 1 =>
    rw [Layout.meshBlock_val]
    show Layout.meshLin [2, 2] c.val [1] * 16384 + v.val = (c.val % 2) * 16384 + v.val
    rw [hy]

/-- The comparison of a column's number with the label's, from the first column of the tile on, keeps the label's column
    and strikes out the others. -/
theorem strike {B j L : ℕ} (hB : B + j < 2 ^ 31) (hL : L < 2 ^ 31) (a : EReal) :
    Scalar.select (IntOp.cmpi .eq (BitVec.ofNat 32 j) (IntOp.subi (BitVec.ofNat 32 L) (BitVec.ofNat 32 B))) a 0
      = if B + j = L then a else 0 := by
  have h : (BitVec.ofNat 32 j == BitVec.ofNat 32 L - BitVec.ofNat 32 B) = decide (B + j = L) := by
    rw [Bool.eq_iff_iff, beq_iff_eq, decide_eq_true_iff]
    constructor
    · intro h
      have h' := congrArg BitVec.toNat (show BitVec.ofNat 32 j + BitVec.ofNat 32 B = BitVec.ofNat 32 L by rw [h, BitVec.sub_add_cancel])
      rw [BitVec.toNat_add, BitVec.toNat_ofNat, BitVec.toNat_ofNat, BitVec.toNat_ofNat] at h'
      omega
    · rintro rfl
      rw [Nat.add_comm, BitVec.ofNat_add, BitVec.add_sub_cancel]
  show Scalar.select (BitVec.ofBool (BitVec.ofNat 32 j == BitVec.ofNat 32 L - BitVec.ofNat 32 B)) a 0 = _
  rw [h]
  by_cases hc : B + j = L
  · rw [if_pos hc, decide_eq_true hc]; rfl
  · rw [if_neg hc, decide_eq_false hc]; rfl

/-! ## The sums -/

section Sums

variable (i : Ins Ideal) (X : Fin 1024 → Fin 2048 → ℝ) (W : Fin 2048 → Fin 32768 → ℝ) (L : Fin 1024 → Fin 32768)

/-- The devices hold the problem: all activations and labels on each, the weights by columns. -/
structure Holds : Prop where
  x : ∀ c p k, i.x c (ix2 p k) = (X p k : EReal)
  w : ∀ c k (v : Fin 16384), i.w c (ix2 k v) = (W k ⟨(c.val % 2) * 16384 + v.val, by omega⟩ : EReal)
  l : ∀ c p, i.l c (ix2 p 0) = BitVec.ofNat 32 (L p).val

variable {i X W L}

/-- A tile's logits are logits of the problem. -/
theorem Holds.logit (h : Holds i X W L) (c : Dev nD) (t : Fin 8) (p : Fin 1024) (j : Fin 1024) :
    i.lg c t (ix2 p j) = (dot X W p (column c t j) : EReal) := by
  unfold Ins.lg Ins.xb
  rw [logit_at, dot, ← coe_dot]
  refine Finset.sum_congr rfl fun k _ => ?_
  have hc : c.val < 4 := c.isLt
  have e : (⟨(c.val % 2) * 16384 + ((c.val / 2) * 8192 + 1024 * t.val + j.val), by omega⟩ : Fin 32768) = column c t j := by
    refine Fin.ext ?_
    show (c.val % 2) * 16384 + ((c.val / 2) * 8192 + 1024 * t.val + j.val) = (c.val % 2) * 16384 + (c.val / 2) * 8192 + 1024 * t.val + j.val
    omega
  rw [rounded_at, tile_at, h.x, h.w, ← e]

/-- A tile's sum of exponentials. -/
def expSum (X : Fin 1024 → Fin 2048 → ℝ) (W : Fin 2048 → Fin 32768 → ℝ) (p : Fin 1024) (c : Fin 4) (t : Fin 8) : ℝ :=
  ∑ j : Fin 1024, Real.exp (dot X W p (column c t j))

/-- A tile's sum of the label's logits. -/
def hitSum (X : Fin 1024 → Fin 2048 → ℝ) (W : Fin 2048 → Fin 32768 → ℝ) (L : Fin 1024 → Fin 32768) (p : Fin 1024) (c : Fin 4) (t : Fin 8) : ℝ :=
  ∑ j : Fin 1024, if column c t j = L p then dot X W p (column c t j) else 0

theorem Holds.sStep (h : Holds i X W L) (c : Dev nD) (t : Fin 8) (p : Fin 1024) {a : FVec Ideal S1024x1 .f32} {r : ℝ}
    (ha : a (ix2 p 0) = (r : EReal)) : sStep a (i.lg c t) (ix2 p 0) = ((r + expSum X W p c t : ℝ) : EReal) := by
  rw [sStep_at, ha, EReal.coe_add, expSum, ← coe_sum]
  exact congrArg _ (Finset.sum_congr rfl fun j _ => by rw [h.logit, exp_coe])

theorem Holds.tStep (h : Holds i X W L) (c : Dev nD) (t : Fin 8) (p : Fin 1024) {a : FVec Ideal S1024x1 .f32} {r : ℝ}
    (ha : a (ix2 p 0) = (r : EReal)) : tStep (colBase c t) a (i.lg c t) (i.l c) (ix2 p 0) = ((r + hitSum X W L p c t : ℝ) : EReal) := by
  rw [tStep_at, ha, EReal.coe_add, hitSum, ← coe_sum]
  refine congrArg _ (Finset.sum_congr rfl fun j _ => ?_)
  have hc : c.val < 4 := c.isLt
  rw [h.logit, h.l, base_word, strike (by omega) (by omega)]
  by_cases hh : column c t j = L p
  · rw [if_pos hh]; exact if_pos (congrArg Fin.val hh)
  · rw [if_neg hh, EReal.coe_zero]; exact if_neg fun e => hh (Fin.ext e)

/-- A device's sum of exponentials. -/
theorem Holds.s7 (h : Holds i X W L) (c : Dev nD) (p : Fin 1024) : i.s7 c (ix2 p 0) = ((∑ t, expSum X W p c t : ℝ) : EReal) := by
  rw [Fin.sum_univ_eight, ← zero_add (expSum X W p c 0)]
  exact h.sStep c 7 p (h.sStep c 6 p (h.sStep c 5 p (h.sStep c 4 p (h.sStep c 3 p (h.sStep c 2 p (h.sStep c 1 p
    (h.sStep c 0 p (zeros_at p).1)))))))

/-- A device's sum of the label's logits. -/
theorem Holds.t7 (h : Holds i X W L) (c : Dev nD) (p : Fin 1024) : i.t7 c (ix2 p 0) = ((∑ t, hitSum X W L p c t : ℝ) : EReal) := by
  rw [Fin.sum_univ_eight, ← zero_add (hitSum X W L p c 0)]
  exact h.tStep c 7 p (h.tStep c 6 p (h.tStep c 5 p (h.tStep c 4 p (h.tStep c 3 p (h.tStep c 2 p (h.tStep c 1 p
    (h.tStep c 0 p (zeros_at p).2)))))))

/-- Every device's result at row `p`: the negative log-likelihood. -/
theorem Holds.out (h : Holds i X W L) (c : Dev nD) (p : Fin 1024) :
    shapeCast S1024 (i.out c) shapeCasts_S1024x1_S1024 (ix1 p) = (nll X W L p : EReal) := by
  have hs := sum_peers (fun d => ∑ t, expSum X W p d t) c
  have ht := sum_peers (fun d => ∑ t, hitSum X W L p d t) c
  have hall : ∑ d, ∑ t, expSum X W p d t = ∑ v, Real.exp (dot X W p v) := sum_columns fun v => Real.exp (dot X W p v)
  have hhit : ∑ d, ∑ t, hitSum X W L p d t = dot X W p (L p) :=
    (sum_columns fun v => if v = L p then dot X W p v else 0).trans (sum_struck _ _)
  have hpos : 0 < ∑ v, Real.exp (dot X W p v) :=
    Finset.sum_pos (fun v _ => Real.exp_pos _) ⟨⟨0, by decide⟩, Finset.mem_univ _⟩
  unfold Ins.out
  rw [result_at, (message_at i _ p).1, (message_at i _ p).1, (message_at i _ p).1, (message_at i _ p).2, (message_at i _ p).2,
    (message_at i _ p).2]
  simp only [h.s7, h.t7, ← EReal.coe_add]
  rw [nll, ← hall, ← hhit, ← hs, ← ht]
  rw [← hall, ← hs] at hpos
  simp only [← add_assoc] at hpos ⊢
  rw [log_coe hpos, ← EReal.coe_sub]

end Sums

end Cert.Nll

end
-- ==== Proof.Reference.lean ====
/-
The reference's value: the composed result of its run, read at a row, is the negative log-likelihood of the row's
label when the activations and the weights are real numbers and the label is one of the columns.
-/
module

public import proofs.«01_k».proof.Proof.Softmax
public import proofs.«01_k».proof.Proof.Gen.ReferenceIdeal.Run

@[expose] public section

noncomputable section

namespace Cert.Nll.Ref

open Idealize.ShloMosaic Cert.ReferenceIdeal Cert.ReferenceIdeal.Gen

/-! ## The pieces -/

/-- All logits. -/
def logits (x : FVec Ideal S1024x2048 .f32) (w : FVec Ideal S2048x32768 .f32) : FVec Ideal S1024x32768 .f32 :=
  Host.dotGeneral dot_S1024x2048_S2048x32768_S1024x32768_1_0_0_1_n_n none x w

/-- The largest of each row. -/
def rowMax (z : FVec Ideal S1024x32768 .f32) : FVec Ideal S1024 .f32 :=
  Host.reduce FloatOps.maximumf z (constant S_ .f32 0xFF800000#32) reducesTo_S1024x32768_S1024_d1 h_S_

/-- The exponentials, each row shifted down by its number `m`. -/
def shifted (z : FVec Ideal S1024x32768 .f32) (m : FVec Ideal S1024 .f32) : FVec Ideal S1024x32768 .f32 :=
  Host.exp (subf z (broadcastInDim S1024x32768 ![0, 1] bcast_S1024x1_S1024x32768_0_1 (broadcastInDim S1024x1 ![0] bcast_S1024_S1024x1_0 m)))

/-- The sum of each row. -/
def rowSum (z : FVec Ideal S1024x32768 .f32) : FVec Ideal S1024 .f32 :=
  Host.reduceAdd z (constant S_ .f32 0x00000000#32) reducesTo_S1024x32768_S1024_d1 h_S_

/-- Where each row's label's logit stands: the row's number and the label, both wrapped if negative. -/
def places (l : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩, ⟨S1024x1, (broadcastInDim S1024x1 ![0] bcast_S1024_S1024x1_0 (select (cmpi .slt l (broadcastInDim S1024 ![] bcast_S_S1024 (constantI S_ 32 0#32))) (addi l (broadcastInDim S1024 ![] bcast_S_S1024 (constantI S_ 32 32768#32))) l))⟩] concatenates_S1024x1_S1024x1_S1024x2_d1

/-- The label's logit of each row. -/
def picked (z : FVec Ideal S1024x32768 .f32) (t : IVec S1024x2 32) : FVec Ideal S1024 .f32 :=
  Host.gather gather_S1024x32768_S1024x2_S1024_n_01_n_n_01_1_11 z t

/-- The maximum, plus the logarithm of the sum, minus the picked logit. -/
def combine (m s t : FVec Ideal S1024 .f32) : FVec Ideal S1024 .f32 :=
  subf (shapeCast _ (addf (broadcastInDim S1024x1 ![0] bcast_S1024_S1024x1_0 m) (Host.log (broadcastInDim S1024x1 ![0] bcast_S1024_S1024x1_0 s))) shapeCasts_S1024x1_S1024) t

/-- The reference's result. -/
def result (x : FVec Ideal S1024x2048 .f32) (w : FVec Ideal S2048x32768 .f32) (l : IVec S1024 32) : FVec Ideal S1024 .f32 :=
  combine (rowMax (logits x w)) (rowSum (shifted (logits x w) (rowMax (logits x w)))) (picked (logits x w) (places l))

/-! ## The pieces at an index -/

theorem logits_at (x : FVec Ideal S1024x2048 .f32) (w : FVec Ideal S2048x32768 .f32) (p : Fin 1024) (v : Fin 32768) :
    logits x w (ix2 p v) = ∑ k : Fin 2048, x (ix2 p k) * w (ix2 k v) := by
  pointwise [logits]

theorem rowMax_at (z : FVec Ideal S1024x32768 .f32) (p : Fin 1024) :
    rowMax z (ix1 p) = Finset.fold max (Ideal.ofBits .f32 0xFF800000#32) (fun v : Fin 32768 => z (ix2 p v)) Finset.univ := by
  pointwise [rowMax]

theorem rowSum_at (z : FVec Ideal S1024x32768 .f32) (p : Fin 1024) : rowSum z (ix1 p) = ∑ v : Fin 32768, z (ix2 p v) := by
  pointwise [rowSum]

theorem shifted_at (z : FVec Ideal S1024x32768 .f32) (m : FVec Ideal S1024 .f32) (p : Fin 1024) (v : Fin 32768) :
    shifted z m (ix2 p v) = Ideal.exp (z (ix2 p v) - m (ix1 p)) := by
  pointwise [shifted]

theorem combine_at (m s t : FVec Ideal S1024 .f32) (p : Fin 1024) :
    combine m s t (ix1 p) = (m (ix1 p) + Ideal.log (s (ix1 p))) - t (ix1 p) := by
  pointwise [combine]

/-- The first entry of row `p`'s place. -/
theorem places_row (l : IVec S1024 32) (p : Fin 1024) : (places l (ix2 p 0)).toInt.toNat = p.val := by
  have h : places l (ix2 p 0) = Scalar.select (IntOp.cmpi .slt (BitVec.ofNat 32 p.val) 0#32)
      (IntOp.addi (BitVec.ofNat 32 p.val) 1024#32) (BitVec.ofNat 32 p.val) := by
    pointwise [places]
  rw [h, wrap_word (by omega), toNat_word (by omega)]

/-- The second entry of row `p`'s place. -/
theorem places_label (l : IVec S1024 32) (p : Fin 1024) (v : Fin 32768) (hv : l (ix1 p) = BitVec.ofNat 32 v.val) :
    (places l (ix2 p 1)).toInt.toNat = v.val := by
  have h : places l (ix2 p 1) = Scalar.select (IntOp.cmpi .slt (l (ix1 p)) 0#32) (IntOp.addi (l (ix1 p)) 32768#32) (l (ix1 p)) := by
    pointwise [places]
  rw [h, hv, wrap_word (by omega), toNat_word (by omega)]

/-- The record of the gather: both of the operand's axes are looked up and collapsed. -/
abbrev both : GatherDims S1024x32768 S1024x2 S1024 := gather_S1024x32768_S1024x2_S1024_n_01_n_n_01_1_11

/-- A gather whose place for row `p` is `(p, v)` reads the operand there. -/
theorem picked_at (z : FVec Ideal S1024x32768 .f32) (t : IVec S1024x2 32) (p : Fin 1024) (v : Fin 32768)
    (h0 : (t (ix2 p 0)).toInt.toNat = p.val) (h1 : (t (ix2 p 1)).toInt.toNat = v.val) :
    picked z t (ix1 p) = z (ix2 p v) := by
  unfold picked Host.gather
  congr 1
  funext a
  refine Fin.ext ?_
  have hs : ∀ b, both.sliceSizes b = 1 := by
    intro b; match b with | 0 => rfl | 1 => rfl
  have hmem : a ∈ both.collapsedSliceDims := by
    match a with
    | 0 => exact List.mem_cons_self
    | 1 => exact List.mem_cons_of_mem _ List.mem_cons_self
  show both.start (ix1 p) t a + both.batchCoord (ix1 p) a + both.offCoord (ix1 p) a = _
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ both.startIndexMap from hmem), hs]
  have hsi : ∀ ha, both.siIdx (ix1 p) ⟨List.idxOf a both.startIndexMap, ha⟩ = ix2 p (⟨a.val, a.isLt⟩ : Fin 2) := by
    intro ha
    funext b; refine Fin.ext ?_
    match a, b with
    | 0, 0 => rfl
    | 0, 1 => rfl
    | 1, 0 => rfl
    | 1, 1 => rfl
  rw [hsi]
  match a with
  | 0 =>
    show min (t (ix2 p 0)).toInt.toNat 1023 = p.val
    rw [h0]; omega
  | 1 =>
    show min (t (ix2 p 1)).toInt.toNat 32767 = v.val
    rw [h1]; omega

/-! ## The result -/

/-- The reference's result at row `p`: the negative log-likelihood. -/
theorem result_at (x : FVec Ideal S1024x2048 .f32) (w : FVec Ideal S2048x32768 .f32) (l : IVec S1024 32)
    (X : Fin 1024 → Fin 2048 → ℝ) (W : Fin 2048 → Fin 32768 → ℝ) (L : Fin 1024 → Fin 32768)
    (hx : ∀ p k, x (ix2 p k) = (X p k : EReal)) (hw : ∀ k v, w (ix2 k v) = (W k v : EReal))
    (hl : ∀ p, l (ix1 p) = BitVec.ofNat 32 (L p).val) (p : Fin 1024) :
    result x w l (ix1 p) = (nll X W L p : EReal) := by
  have hz : ∀ v, logits x w (ix2 p v) = (dot X W p v : EReal) := by
    intro v
    rw [logits_at, dot, ← coe_dot]
    exact Finset.sum_congr rfl fun k _ => by rw [hx, hw]
  obtain ⟨M, hM⟩ := coe_max (by decide : 0 < 32768) (dot X W p)
  have hm : rowMax (logits x w) (ix1 p) = (M : EReal) := by
    rw [rowMax_at, ofBits_neg_inf, ← hM]
    exact congrArg (fun f => Finset.fold max ⊥ f Finset.univ) (funext hz)
  have hs : rowSum (shifted (logits x w) (rowMax (logits x w))) (ix1 p) = ((∑ v, Real.exp (dot X W p v - M) : ℝ) : EReal) := by
    rw [rowSum_at, ← coe_sum]
    exact Finset.sum_congr rfl fun v _ => by rw [shifted_at, hz, hm, ← EReal.coe_sub, exp_coe]
  have hpos : 0 < ∑ v, Real.exp (dot X W p v - M) :=
    Finset.sum_pos (fun v _ => Real.exp_pos _) ⟨⟨0, by decide⟩, Finset.mem_univ _⟩
  rw [result, combine_at, hm, hs, picked_at _ _ p (L p) (places_row l p) (places_label l p (L p) (hl p)), hz, log_coe hpos,
    ← EReal.coe_add, ← EReal.coe_sub, log_sum_shift (by decide), nll]

end Cert.Nll.Ref

end
-- ==== Proof.Precondition.lean ====
/-
The precondition, opened: where it holds of a device's arrays, every activation and every weight of the device is a real
number, and every label is the number of a column.
-/
module

public import proofs.«01_k».proof.Proof.Softmax
public import proofs.«01_k».proof.Pre_finite_and_in_range_KernelIdeal
public import Idealize.ShloMosaic.Lib.ReduceAll

@[expose] public section

noncomputable section

namespace Cert.Nll

open Idealize.ShloMosaic Cert.Pre_finite_and_in_range_KernelIdeal Cert.Pre_finite_and_in_range_KernelIdeal.Facts

/-- Both bits of a conjunction that is one. -/
theorem both_one : ∀ a b : BitVec 1, IntOp.andi a b = 1#1 → a = 1#1 ∧ b = 1#1 := by decide

/-- A truth value's bit that is one. -/
theorem ofBool_one {b : Bool} (h : BitVec.ofBool b = 1#1) : b = true := by
  cases b
  · exact absurd h (by decide)
  · rfl

/-- A number of absolute value below infinity is a real number. -/
theorem real_of_abs_lt {a : EReal} (h : max a (-a) < ⊤) : ∃ r : ℝ, a = (r : EReal) := by
  induction a using EReal.rec with
  | bot => exact absurd h (by simp)
  | coe r => exact ⟨r, rfl⟩
  | top => exact absurd h (by simp)

/-- The comparison of an absolute value with infinity, at an index, where it comes out one. -/
theorem real_of_cmp {s : Shape} (x : FVec Ideal s .f32) (h : (⟨0, ![]⟩ : Shape).BroadcastsInDim s ![]) (i : s.Idx)
    (e : cmpf .olt (Host.absf x) (broadcastInDim s ![] h (constant ⟨0, ![]⟩ .f32 0x7F800000#32)) i = 1#1) : ∃ r : ℝ, x i = (r : EReal) := by
  have e' : BitVec.ofBool (decide (max (x i) (-(x i)) < Ideal.ofBits .f32 0x7F800000#32)) = 1#1 := e
  rw [ofBits_inf] at e'
  exact real_of_abs_lt (of_decide_eq_true (ofBool_one e'))

/-- A word that is not negative and below 32768 is the number of a column. -/
theorem column_of_word (b : BitVec 32) (h0 : IntOp.cmpi .sge b 0#32 = 1#1) (h1 : IntOp.cmpi .slt b 32768#32 = 1#1) :
    ∃ v : Fin 32768, b = BitVec.ofNat 32 v.val := by
  have h0' : (0#32).sle b = true := ofBool_one h0
  have h1' : b.slt 32768#32 = true := ofBool_one h1
  rw [BitVec.sle_eq_decide, decide_eq_true_iff] at h0'
  rw [BitVec.slt_eq_decide, decide_eq_true_iff] at h1'
  have hz : (0#32).toInt = 0 := by decide
  have hn : (32768#32).toInt = 32768 := by decide
  rw [hz] at h0'
  rw [hn] at h1'
  have hb := BitVec.toInt_eq_toNat_cond b
  have hlt := b.isLt
  have hv : b.toNat < 32768 := by
    split at hb <;> omega
  exact ⟨⟨b.toNat, hv⟩, by rw [BitVec.ofNat_toNat, BitVec.setWidth_eq]⟩

/-- What the precondition says. -/
theorem opened_pre [Cert.Pre_finite_and_in_range_KernelIdeal.Facts] (x : FVec Ideal S1024x2048 .f32) (w : FVec Ideal S2048x16384 .f32)
    (l : IVec S1024 32) (h : fn (F := Ideal) x w l = fun _ => 1#1) :
    (∀ i, ∃ r : ℝ, x i = (r : EReal)) ∧ (∀ i, ∃ r : ℝ, w i = (r : EReal)) ∧ ∀ i, ∃ v : Fin 32768, l i = BitVec.ofNat 32 v.val := by
  have hj := congrFun h ix0
  obtain ⟨hxw, hl⟩ := both_one _ _ hj
  obtain ⟨hx, hw⟩ := both_one _ _ hxw
  have : Subsingleton S_.Idx := ⟨fun a b => funext fun k => Fin.elim0 k⟩
  refine ⟨fun i => ?_, fun i => ?_, fun i => ?_⟩
  · exact real_of_cmp x bcast_S_S1024x2048 i (Host.reduce_andi_all _ _ reducesTo_S1024x2048_S_d0_1 h_S_ _ hx i)
  · exact real_of_cmp w bcast_S_S2048x16384 i (Host.reduce_andi_all _ _ reducesTo_S2048x16384_S_d0_1 h_S_ _ hw i)
  · have hi := Host.reduce_andi_all _ _ reducesTo_S1024_S_d0 h_S_ _ hl i
    obtain ⟨h0, h1⟩ := both_one _ _ hi
    exact column_of_word (l i) h0 h1

end Cert.Nll

end
-- ==== Proof.Equation.lean ====
/-
The value claim: from matching arguments within the precondition, the kernel on four devices and the reference on one
both end, and every device's result is the reference's. The two results agree at each row, both being the negative
log-likelihood of the row's label.
-/
module

public import proofs.«01_k».proof.Proof.Frames
public import proofs.«01_k».proof.Proof.Values
public import proofs.«01_k».proof.Proof.Reference
public import proofs.«01_k».proof.Proof.Precondition

@[expose] public section

noncomputable section

namespace Cert.Nll

open Idealize.ShloMosaic Idealize.ShloMosaic.TcCoe Idealize.SL.Sem

/-- The arguments, where they match and the precondition holds on every device: real activations and weights, and columns
    for labels, which the devices hold between them. -/
theorem problem [Cert.Pre_finite_and_in_range_KernelIdeal.Facts]
    (m : (ℓ : Loc Cert.KernelIdeal.nD Cert.KernelIdeal.τ Cert.KernelIdeal.sig) → Buf (Elt Ideal) ℓ)
    (x : FVec Ideal ⟨2, ![1024, 2048]⟩ .f32) (w : FVec Ideal ⟨2, ![2048, 32768]⟩ .f32) (l : IVec ⟨1, ![1024]⟩ 32)
    (hp : Cert.Pre_KernelIdeal_finite_and_in_range_KernelIdeal m)
    (hx : ∀ c : Dev Cert.KernelIdeal.nD, m ((c.tc : Thread Cert.KernelIdeal.nD Cert.KernelIdeal.τ).loc Cert.KernelIdeal.main_arg0) = x)
    (hw : ∀ c : Dev Cert.KernelIdeal.nD, m ((c.tc : Thread Cert.KernelIdeal.nD Cert.KernelIdeal.τ).loc Cert.KernelIdeal.main_arg1)
      = Layout.blockN ⟨2, ![2048, 16384]⟩ ⟨2, ![2048, 32768]⟩ (Layout.meshBlock [2, 2] ![[], [1]] c) w)
    (hl : ∀ c : Dev Cert.KernelIdeal.nD, m ((c.tc : Thread Cert.KernelIdeal.nD Cert.KernelIdeal.τ).loc Cert.KernelIdeal.main_arg2) = l) :
    ∃ (X : Fin 1024 → Fin 2048 → ℝ) (W : Fin 2048 → Fin 32768 → ℝ) (L : Fin 1024 → Fin 32768),
      (∀ p k, x (ix2 p k) = (X p k : EReal)) ∧ (∀ k v, w (ix2 k v) = (W k v : EReal))
        ∧ (∀ p, l (ix1 p) = BitVec.ofNat 32 (L p).val) ∧ Holds (insOf m) X W L := by
  have o := fun c : Dev Cert.KernelIdeal.nD => opened_pre _ _ _ (hp c)
  have rx : ∀ p k, ∃ r : ℝ, x (ix2 p k) = (r : EReal) := fun p k => by
    have := (o 0).1 (ix2 p k)
    rwa [hx 0] at this
  have rw' : ∀ k v, ∃ r : ℝ, w (ix2 k v) = (r : EReal) := fun k v => by
    have hd : v.val / 16384 < 4 := by omega
    obtain ⟨r, hr⟩ := (o ⟨v.val / 16384, hd⟩).2.1 (ix2 k ⟨v.val % 16384, by omega⟩)
    refine ⟨r, ?_⟩
    rw [← hr, block_at w ⟨v.val / 16384, hd⟩ _ (hw _)]
    refine congrArg (fun u => w (ix2 k u)) (Fin.ext ?_)
    show v.val = (v.val / 16384) % 2 * 16384 + v.val % 16384
    omega
  have rl : ∀ p, ∃ v : Fin 32768, l (ix1 p) = BitVec.ofNat 32 v.val := fun p => by
    have := (o 0).2.2 (ix1 p)
    rwa [hl 0] at this
  choose X hX using rx
  choose W hW using rw'
  choose L hL using rl
  refine ⟨X, W, L, hX, hW, hL, ⟨fun c p k => ?_, fun c k v => ?_, fun c p => ?_⟩⟩
  · exact (congrFun (hx c) (ix2 p k)).trans (hX p k)
  · exact (block_at w c _ (hw c) k v).trans (hW k _)
  · exact ((labels_at _ p).trans (congrFun (hl c) (ix1 p))).trans (hL p)

/-- Every device's result is the reference's. -/
theorem equation [Cert.Pre_finite_and_in_range_KernelIdeal.Facts] : Cert.algebraic_KernelIdeal_ReferenceIdeal_pre_finite_and_in_range_KernelIdeal := by
  intro m g m' g' hp hm
  obtain ⟨X, W, L, hX, hW, hL, hh⟩ := problem m _ _ _ hp (fun c => (hm c).1) (fun c => (hm c).2.1) (fun c => (hm c).2.2)
  refine ⟨Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  rotate_left
  · exact (θ_run Cert.ReferenceIdeal.defs _ _).mono (fun r h => h 0) (Cert.ReferenceIdeal.Value.run (F := Ideal) m' g')
  · refine (θ_run Cert.KernelIdeal.defs _ _).mono (fun r h c => ?_) (run_main (F := Ideal) m g)
    refine ⟨(h.1 c).2.2.2.trans ?_, (h.1 c).1, (h.1 c).2.1, (h.1 c).2.2.1⟩
    funext j
    rw [eq_ix1 j]
    exact (hh.out c _).trans (Ref.result_at _ _ _ X W L hX hW hL _).symm

/-- The kernel's frame within the precondition. -/
theorem frame_kernelIdeal_pre [Cert.Pre_finite_and_in_range_KernelIdeal.Facts] :
    Cert.quiescent_KernelIdeal_pre_finite_and_in_range_KernelIdeal := fun m ρ _ => frame_kernelIdeal m ρ trivial

/-- The reference's frame within the precondition. -/
theorem frame_referenceIdeal_pre [Cert.Pre_finite_and_in_range_ReferenceIdeal.Facts] :
    Cert.quiescent_ReferenceIdeal_pre_finite_and_in_range_ReferenceIdeal := fun m ρ _ => frame_referenceIdeal m ρ trivial

end Cert.Nll

end
-- ==== Proof.lean ====
/-
  The proof of `Cert.Claim`: its parts, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_and_in_range_KernelIdeal
public import proofs.«01_k».proof.Proof.Gen.Pre_finite_and_in_range_ReferenceIdeal
public import proofs.«01_k».proof.Proof.Frames
public import proofs.«01_k».proof.Proof.Equation

@[expose] public section

noncomputable section

namespace Cert.Proof

theorem claim : Cert.Claim :=
  have h := Cert.Pre_finite_and_in_range_KernelIdeal.Gen.facts
  have h' := Cert.Pre_finite_and_in_range_ReferenceIdeal.Gen.facts
  ⟨Cert.Kernel.Gen.facts, Cert.KernelIdeal.Gen.facts, Cert.ReferenceIdeal.Gen.facts, h, h',
    Cert.Nll.frame_kernel, Cert.Nll.frame_kernelIdeal, Cert.Nll.frame_kernelIdeal_pre,
    Cert.Nll.frame_referenceIdeal, Cert.Nll.frame_referenceIdeal_pre, trivial, Cert.Nll.equation⟩

end Cert.Proof

end
